-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_distances [hPre_distinct_distances : Cert.Pre_distinct_distances.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_distances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_distances [hPre_distinct_distances : Cert.Pre_distinct_distances.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_distances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_distinct_distances [hKernelIdeal : Cert.KernelIdeal.Facts] [hPre_distinct_distances : Cert.Pre_distinct_distances.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_distances m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_distinct_distances [hReferenceIdeal : Cert.ReferenceIdeal.Facts] [hPre_distinct_distances : Cert.Pre_distinct_distances.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_distances m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_distinct_distances [hKernelIdeal : Cert.KernelIdeal.Facts] [hReferenceIdeal : Cert.ReferenceIdeal.Facts] [hPre_distinct_distances : Cert.Pre_distinct_distances.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_distances m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_distinct_distances : Cert.Pre_distinct_distances.Facts),
    quiescent_Kernel (hKernel := hKernel)
    ∧ quiescent_KernelIdeal (hKernelIdeal := hKernelIdeal)
    ∧ quiescent_KernelIdeal_pre_distinct_distances (hKernelIdeal := hKernelIdeal) (hPre_distinct_distances := hPre_distinct_distances)
    ∧ quiescent_ReferenceIdeal (hReferenceIdeal := hReferenceIdeal)
    ∧ quiescent_ReferenceIdeal_pre_distinct_distances (hReferenceIdeal := hReferenceIdeal) (hPre_distinct_distances := hPre_distinct_distances)
    ∧ preserves_Kernel_KernelIdeal
    ∧ algebraic_KernelIdeal_ReferenceIdeal_pre_distinct_distances (hKernelIdeal := hKernelIdeal) (hReferenceIdeal := hReferenceIdeal) (hPre_distinct_distances := hPre_distinct_distances)
-- ==== Pre_distinct_distances.lean ====
abbrev S2x64x240x320 : Shape := ⟨4, ![2, 64, 240, 320]⟩
abbrev S16x64x16x16 : Shape := ⟨4, ![16, 64, 16, 16]⟩
abbrev S16 : Shape := ⟨1, ![16]⟩
abbrev S16x16x1x1 : Shape := ⟨4, ![16, 16, 1, 1]⟩
abbrev S16x16 : Shape := ⟨2, ![16, 16]⟩
abbrev S_ : Shape := ⟨0, ![]⟩
abbrev S2x64x15x16x20x16 : Shape := ⟨6, ![2, 64, 15, 16, 20, 16]⟩
abbrev S16x2x15x20 : Shape := ⟨4, ![16, 2, 15, 20]⟩
abbrev S2x16x15x20 : Shape := ⟨4, ![2, 16, 15, 20]⟩
abbrev S1x16x1x1 : Shape := ⟨4, ![1, 16, 1, 1]⟩
abbrev S2x16 : Shape := ⟨2, ![2, 16]⟩
abbrev S2x16x1x1 : Shape := ⟨4, ![2, 16, 1, 1]⟩
abbrev S2x16x1x1x1x1 : Shape := ⟨6, ![2, 16, 1, 1, 1, 1]⟩
abbrev S16x2x1x1 : Shape := ⟨4, ![16, 2, 1, 1]⟩
abbrev S2x15x20x16 : Shape := ⟨4, ![2, 15, 20, 16]⟩
abbrev S2x300x16 : Shape := ⟨3, ![2, 300, 16]⟩
abbrev S2x300x1x16 : Shape := ⟨4, ![2, 300, 1, 16]⟩
abbrev S2x1x300x16 : Shape := ⟨4, ![2, 1, 300, 16]⟩
abbrev S2x300x300x16 : Shape := ⟨4, ![2, 300, 300, 16]⟩
abbrev S2x300x300 : Shape := ⟨3, ![2, 300, 300]⟩
abbrev S2x300x300x1 : Shape := ⟨4, ![2, 300, 300, 1]⟩
abbrev S2x300x1x300 : Shape := ⟨4, ![2, 300, 1, 300]⟩
abbrev S2x300x300x300 : Shape := ⟨4, ![2, 300, 300, 300]⟩
abbrev S300x300 : Shape := ⟨2, ![300, 300]⟩
abbrev S1x1x300x300 : Shape := ⟨4, ![1, 1, 300, 300]⟩

class Facts : Prop where
  bcast_S_S2x64x240x320 : S_.BroadcastsInDim S2x64x240x320 (![] : Fin 0 → Fin S2x64x240x320.rank)
  reducesTo_S2x64x240x320_S_d0_1_2_3 : S2x64x240x320.ReducesTo [0, 1, 2, 3] S_
  h_S_ : 0 < S_.numel
  bcast_S_S16x64x16x16 : S_.BroadcastsInDim S16x64x16x16 (![] : Fin 0 → Fin S16x64x16x16.rank)
  reducesTo_S16x64x16x16_S_d0_1_2_3 : S16x64x16x16.ReducesTo [0, 1, 2, 3] S_
  bcast_S_S16 : S_.BroadcastsInDim S16 (![] : Fin 0 → Fin S16.rank)
  reducesTo_S16_S_d0 : S16.ReducesTo [0] S_
  bcast_S_S16x16x1x1 : S_.BroadcastsInDim S16x16x1x1 (![] : Fin 0 → Fin S16x16x1x1.rank)
  reducesTo_S16x16x1x1_S_d0_1_2_3 : S16x16x1x1.ReducesTo [0, 1, 2, 3] S_
  bcast_S_S16x16 : S_.BroadcastsInDim S16x16 (![] : Fin 0 → Fin S16x16.rank)
  reducesTo_S16x16_S_d0_1 : S16x16.ReducesTo [0, 1] S_
  shapeCasts_S2x64x240x320_S2x64x15x16x20x16 : S2x64x240x320.ShapeCasts S2x64x15x16x20x16
  transposes_S16x2x15x20_S2x16x15x20_1_0_2_3 : S16x2x15x20.Transposes [1, 0, 2, 3] S2x16x15x20
  bcast_S16_S1x16x1x1_1 : S16.BroadcastsInDim S1x16x1x1 (![1] : Fin 1 → Fin S1x16x1x1.rank)
  bcast_S1x16x1x1_S2x16x15x20_0_1_2_3 : S1x16x1x1.BroadcastsInDim S2x16x15x20 (![0, 1, 2, 3] : Fin 4 → Fin S2x16x15x20.rank)
  reducesTo_S2x16x15x20_S16_d0_2_3 : S2x16x15x20.ReducesTo [0, 2, 3] S16
  bcast_S_S1x16x1x1 : S_.BroadcastsInDim S1x16x1x1 (![] : Fin 0 → Fin S1x16x1x1.rank)
  bcast_S_S2x16x15x20 : S_.BroadcastsInDim S2x16x15x20 (![] : Fin 0 → Fin S2x16x15x20.rank)
  reducesTo_S2x16x15x20_S2x16_d2_3 : S2x16x15x20.ReducesTo [2, 3] S2x16
  bcast_S2x16_S2x16x1x1_0_1 : S2x16.BroadcastsInDim S2x16x1x1 (![0, 1] : Fin 2 → Fin S2x16x1x1.rank)
  bcast_S_S2x16x1x1 : S_.BroadcastsInDim S2x16x1x1 (![] : Fin 0 → Fin S2x16x1x1.rank)
  shapeCasts_S2x16x1x1_S2x16x1x1x1x1 : S2x16x1x1.ShapeCasts S2x16x1x1x1x1
  transposes_S16x2x1x1_S2x16x1x1_1_0_2_3 : S16x2x1x1.Transposes [1, 0, 2, 3] S2x16x1x1
  reducesTo_S2x16x1x1_S16_d0_2_3 : S2x16x1x1.ReducesTo [0, 2, 3] S16
  bcast_S1x16x1x1_S2x16x1x1_0_1_2_3 : S1x16x1x1.BroadcastsInDim S2x16x1x1 (![0, 1, 2, 3] : Fin 4 → Fin S2x16x1x1.rank)
  bcast_S2x16x1x1_S2x16x15x20_0_1_2_3 : S2x16x1x1.BroadcastsInDim S2x16x15x20 (![0, 1, 2, 3] : Fin 4 → Fin S2x16x15x20.rank)
  transposes_S2x16x15x20_S2x15x20x16_0_2_3_1 : S2x16x15x20.Transposes [0, 2, 3, 1] S2x15x20x16
  shapeCasts_S2x15x20x16_S2x300x16 : S2x15x20x16.ShapeCasts S2x300x16
  bcast_S2x300x16_S2x300x1x16_0_1_3 : S2x300x16.BroadcastsInDim S2x300x1x16 (![0, 1, 3] : Fin 3 → Fin S2x300x1x16.rank)
  bcast_S2x300x16_S2x1x300x16_0_2_3 : S2x300x16.BroadcastsInDim S2x1x300x16 (![0, 2, 3] : Fin 3 → Fin S2x1x300x16.rank)
  bcast_S2x300x1x16_S2x300x300x16_0_1_2_3 : S2x300x1x16.BroadcastsInDim S2x300x300x16 (![0, 1, 2, 3] : Fin 4 → Fin S2x300x300x16.rank)
  bcast_S2x1x300x16_S2x300x300x16_0_1_2_3 : S2x1x300x16.BroadcastsInDim S2x300x300x16 (![0, 1, 2, 3] : Fin 4 → Fin S2x300x300x16.rank)
  reducesTo_S2x300x300x16_S2x300x300_d3 : S2x300x300x16.ReducesTo [3] S2x300x300
  bcast_S2x300x300_S2x300x300x1_0_1_2 : S2x300x300.BroadcastsInDim S2x300x300x1 (![0, 1, 2] : Fin 3 → Fin S2x300x300x1.rank)
  bcast_S2x300x300_S2x300x1x300_0_1_3 : S2x300x300.BroadcastsInDim S2x300x1x300 (![0, 1, 3] : Fin 3 → Fin S2x300x1x300.rank)
  bcast_S2x300x300x1_S2x300x300x300_0_1_2_3 : S2x300x300x1.BroadcastsInDim S2x300x300x300 (![0, 1, 2, 3] : Fin 4 → Fin S2x300x300x300.rank)
  bcast_S2x300x1x300_S2x300x300x300_0_1_2_3 : S2x300x1x300.BroadcastsInDim S2x300x300x300 (![0, 1, 2, 3] : Fin 4 → Fin S2x300x300x300.rank)
  bcast_S_S300x300 : S_.BroadcastsInDim S300x300 (![] : Fin 0 → Fin S300x300.rank)
  bcast_S300x300_S1x1x300x300_2_3 : S300x300.BroadcastsInDim S1x1x300x300 (![2, 3] : Fin 2 → Fin S1x1x300x300.rank)
  bcast_S1x1x300x300_S2x300x300x300_0_1_2_3 : S1x1x300x300.BroadcastsInDim S2x300x300x300 (![0, 1, 2, 3] : Fin 4 → Fin S2x300x300x300.rank)
  reducesTo_S2x300x300x300_S_d0_1_2_3 : S2x300x300x300.ReducesTo [0, 1, 2, 3] S_
  dot_S16x64x16x16_S2x64x15x16x20x16_S16x2x15x20_123_135_0_024_n_n_wf : DotDims.WF S16x64x16x16 S2x64x15x16x20x16 S16x2x15x20 [1, 2, 3] [1, 3, 5] [0] [0, 2, 4] [] []
  dot_S16x16x1x1_S2x16x1x1x1x1_S16x2x1x1_123_135_0_024_n_n_wf : DotDims.WF S16x16x1x1 S2x16x1x1x1x1 S16x2x1x1 [1, 2, 3] [1, 3, 5] [0] [0, 2, 4] [] []

variable [Facts]

def dot_S16x64x16x16_S2x64x15x16x20x16_S16x2x15x20_123_135_0_024_n_n : DotDims S16x64x16x16 S2x64x15x16x20x16 S16x2x15x20 where
  lhsContracting := [1, 2, 3]
  rhsContracting := [1, 3, 5]
  lhsNonContracting := [0]
  rhsNonContracting := [0, 2, 4]
  lhsBatch := []
  rhsBatch := []
  wf := dot_S16x64x16x16_S2x64x15x16x20x16_S16x2x15x20_123_135_0_024_n_n_wf
def dot_S16x16x1x1_S2x16x1x1x1x1_S16x2x1x1_123_135_0_024_n_n : DotDims S16x16x1x1 S2x16x1x1x1x1 S16x2x1x1 where
  lhsContracting := [1, 2, 3]
  rhsContracting := [1, 3, 5]
  lhsNonContracting := [0]
  rhsNonContracting := [0, 2, 4]
  lhsBatch := []
  rhsBatch := []
  wf := dot_S16x16x1x1_S2x16x1x1x1x1_S16x2x1x1_123_135_0_024_n_n_wf
def fn_relu {F : FTy → Type} [FloatOps F] (arg0 : FVec F S2x16x15x20 .f32) : FVec F S2x16x15x20 .f32 :=
  let cst : FVec F S_ .f32 := constant S_ .f32 0x00000000#32
  let v0 : FVec F S2x16x15x20 .f32 := broadcastInDim S2x16x15x20 ![] bcast_S_S2x16x15x20 cst
  let v1 : FVec F S2x16x15x20 .f32 := maximumf arg0 v0
  v1

def fn_norm {F : FTy → Type} [FloatOps F] (arg0 : FVec F S2x300x300x16 .f32) : FVec F S2x300x300 .f32 :=
  let v0 : FVec F S2x300x300x16 .f32 := mulf arg0 arg0
  let cst : FVec F S_ .f32 := constant S_ .f32 0x00000000#32
  let v1 : FVec F S2x300x300 .f32 := (fun x v => Host.reduceAdd x v reducesTo_S2x300x300x16_S2x300x300_d3 h_S_) v0 cst
  let v2 : FVec F S2x300x300 .f32 := Host.sqrt v1
  v2

def fn_part7 {F : FTy → Type} [FloatOps F] (main_v49 : IVec S_ 1) (main_v132 : IVec S2x300x300x300 1) : IVec S_ 1 :=
  let main_v133 : IVec S2x300x300x300 1 := noti main_v132
  let main_v134 : IVec S300x300 32 := iotaInDim S300x300 32 0
  let main_v135 : IVec S300x300 32 := iotaInDim S300x300 32 1
  let main_c_33 : IVec S_ 32 := constantI S_ 32 0#32
  let main_v136 : IVec S300x300 32 := broadcastInDim S300x300 ![] bcast_S_S300x300 main_c_33
  let main_v137 : IVec S300x300 32 := addi main_v134 main_v136
  let main_v138 : IVec S300x300 1 := cmpi .eq main_v137 main_v135
  let main_v139 : IVec S1x1x300x300 1 := broadcastInDim S1x1x300x300 ![2, 3] bcast_S300x300_S1x1x300x300_2_3 main_v138
  let main_v140 : IVec S2x300x300x300 1 := broadcastInDim S2x300x300x300 ![0, 1, 2, 3] bcast_S1x1x300x300_S2x300x300x300_0_1_2_3 main_v139
  let main_v141 : IVec S2x300x300x300 1 := ori main_v133 main_v140
  let main_c_34 : IVec S_ 1 := constantI S_ 1 1#1
  let main_v142 : IVec S_ 1 := (fun x v => Host.reduce IntOp.andi x v reducesTo_S2x300x300x300_S_d0_1_2_3 h_S_) main_v141 main_c_34
  let main_v143 : IVec S_ 1 := andi main_v49 main_v142
  main_v143

def fn_part6 {F : FTy → Type} [FloatOps F] (main_v49 : IVec S_ 1) (main_v80 : FVec F S2x16x15x20 .f32) (main_v108 : FVec F S2x16x1x1 .f32) (main_v110 : FVec F S2x16x1x1 .f32) : IVec S_ 1 :=
  let main_v111 : FVec F S2x16x1x1 .f32 := addf main_v108 main_v110
  let main_v112 : FVec F S2x16x1x1 .f32 := Host.negf main_v111
  let main_v113 : FVec F S2x16x1x1 .f32 := Host.exp main_v112
  let main_cst_31 : FVec F S_ .f32 := constant S_ .f32 0x3F800000#32
  let main_v114 : FVec F S2x16x1x1 .f32 := broadcastInDim S2x16x1x1 ![] bcast_S_S2x16x1x1 main_cst_31
  let main_v115 : FVec F S2x16x1x1 .f32 := addf main_v114 main_v113
  let main_cst_32 : FVec F S_ .f32 := constant S_ .f32 0x3F800000#32
  let main_v116 : FVec F S2x16x1x1 .f32 := broadcastInDim S2x16x1x1 ![] bcast_S_S2x16x1x1 main_cst_32
  let main_v117 : FVec F S2x16x1x1 .f32 := Host.divf main_v116 main_v115
  let main_v118 : FVec F S2x16x15x20 .f32 := broadcastInDim S2x16x15x20 ![0, 1, 2, 3] bcast_S2x16x1x1_S2x16x15x20_0_1_2_3 main_v117
  let main_v119 : FVec F S2x16x15x20 .f32 := mulf main_v80 main_v118
  let main_v120 : FVec F S2x15x20x16 .f32 := (transpose S2x15x20x16 [0, 2, 3, 1] · transposes_S2x16x15x20_S2x15x20x16_0_2_3_1) main_v119
  let main_v121 : FVec F S2x300x16 .f32 := shapeCast S2x300x16 main_v120 shapeCasts_S2x15x20x16_S2x300x16
  let main_v122 : FVec F S2x300x1x16 .f32 := broadcastInDim S2x300x1x16 ![0, 1, 3] bcast_S2x300x16_S2x300x1x16_0_1_3 main_v121
  let main_v123 : FVec F S2x1x300x16 .f32 := broadcastInDim S2x1x300x16 ![0, 2, 3] bcast_S2x300x16_S2x1x300x16_0_2_3 main_v121
  let main_v124 : FVec F S2x300x300x16 .f32 := broadcastInDim S2x300x300x16 ![0, 1, 2, 3] bcast_S2x300x1x16_S2x300x300x16_0_1_2_3 main_v122
  let main_v125 : FVec F S2x300x300x16 .f32 := broadcastInDim S2x300x300x16 ![0, 1, 2, 3] bcast_S2x1x300x16_S2x300x300x16_0_1_2_3 main_v123
  let main_v126 : FVec F S2x300x300x16 .f32 := subf main_v124 main_v125
  let main_v127 : FVec F S2x300x300 .f32 := fn_norm (F := F) main_v126
  let main_v128 : FVec F S2x300x300x1 .f32 := broadcastInDim S2x300x300x1 ![0, 1, 2] bcast_S2x300x300_S2x300x300x1_0_1_2 main_v127
  let main_v129 : FVec F S2x300x1x300 .f32 := broadcastInDim S2x300x1x300 ![0, 1, 3] bcast_S2x300x300_S2x300x1x300_0_1_3 main_v127
  let main_v130 : FVec F S2x300x300x300 .f32 := broadcastInDim S2x300x300x300 ![0, 1, 2, 3] bcast_S2x300x300x1_S2x300x300x300_0_1_2_3 main_v128
  let main_v131 : FVec F S2x300x300x300 .f32 := broadcastInDim S2x300x300x300 ![0, 1, 2, 3] bcast_S2x300x1x300_S2x300x300x300_0_1_2_3 main_v129
  let main_v132 : IVec S2x300x300x300 1 := cmpf .oeq main_v130 main_v131
  fn_part7 (F := F) main_v49 main_v132

def fn_part5 {F : FTy → Type} [FloatOps F] (main_arg6 : FVec F S16 .f32) (main_arg7 : FVec F S16 .f32) (main_v49 : IVec S_ 1) (main_v80 : FVec F S2x16x15x20 .f32) (main_v87 : FVec F S2x16x1x1 .f32) (main_v89 : FVec F S1x16x1x1 .f32) (main_cst_27 : FVec F S_ .f32) : IVec S_ 1 :=
  let main_v90 : FVec F S1x16x1x1 .f32 := broadcastInDim S1x16x1x1 ![] bcast_S_S1x16x1x1 main_cst_27
  let main_v91 : FVec F S1x16x1x1 .f32 := Host.divf main_v89 main_v90
  let main_v92 : FVec F S2x16x1x1 .f32 := broadcastInDim S2x16x1x1 ![0, 1, 2, 3] bcast_S1x16x1x1_S2x16x1x1_0_1_2_3 main_v91
  let main_v93 : FVec F S2x16x1x1 .f32 := subf main_v87 main_v92
  let main_v94 : FVec F S2x16x1x1 .f32 := mulf main_v93 main_v93
  let main_cst_28 : FVec F S_ .f32 := constant S_ .f32 0x00000000#32
  let main_v95 : FVec F S16 .f32 := (fun x v => Host.reduceAdd x v reducesTo_S2x16x1x1_S16_d0_2_3 h_S_) main_v94 main_cst_28
  let main_v96 : FVec F S1x16x1x1 .f32 := broadcastInDim S1x16x1x1 ![1] bcast_S16_S1x16x1x1_1 main_v95
  let main_cst_29 : FVec F S_ .f32 := constant S_ .f32 0x40000000#32
  let main_v97 : FVec F S1x16x1x1 .f32 := broadcastInDim S1x16x1x1 ![] bcast_S_S1x16x1x1 main_cst_29
  let main_v98 : FVec F S1x16x1x1 .f32 := Host.divf main_v96 main_v97
  let main_v99 : FVec F S2x16x1x1 .f32 := broadcastInDim S2x16x1x1 ![0, 1, 2, 3] bcast_S1x16x1x1_S2x16x1x1_0_1_2_3 main_v91
  let main_v100 : FVec F S2x16x1x1 .f32 := subf main_v87 main_v99
  let main_cst_30 : FVec F S_ .f32 := constant S_ .f32 0x3727C5AC#32
  let main_v101 : FVec F S1x16x1x1 .f32 := broadcastInDim S1x16x1x1 ![] bcast_S_S1x16x1x1 main_cst_30
  let main_v102 : FVec F S1x16x1x1 .f32 := addf main_v98 main_v101
  let main_v103 : FVec F S1x16x1x1 .f32 := Host.sqrt main_v102
  let main_v104 : FVec F S2x16x1x1 .f32 := broadcastInDim S2x16x1x1 ![0, 1, 2, 3] bcast_S1x16x1x1_S2x16x1x1_0_1_2_3 main_v103
  let main_v105 : FVec F S2x16x1x1 .f32 := Host.divf main_v100 main_v104
  let main_v106 : FVec F S1x16x1x1 .f32 := broadcastInDim S1x16x1x1 ![1] bcast_S16_S1x16x1x1_1 main_arg6
  let main_v107 : FVec F S2x16x1x1 .f32 := broadcastInDim S2x16x1x1 ![0, 1, 2, 3] bcast_S1x16x1x1_S2x16x1x1_0_1_2_3 main_v106
  let main_v108 : FVec F S2x16x1x1 .f32 := mulf main_v105 main_v107
  let main_v109 : FVec F S1x16x1x1 .f32 := broadcastInDim S1x16x1x1 ![1] bcast_S16_S1x16x1x1_1 main_arg7
  let main_v110 : FVec F S2x16x1x1 .f32 := broadcastInDim S2x16x1x1 ![0, 1, 2, 3] bcast_S1x16x1x1_S2x16x1x1_0_1_2_3 main_v109
  fn_part6 (F := F) main_v49 main_v80 main_v108 main_v110

def fn_part4 {F : FTy → Type} [FloatOps F] (main_arg3 : FVec F S16 .f32) (main_arg4 : FVec F S16 .f32) (main_arg5 : FVec F S16x16x1x1 .f32) (main_arg6 : FVec F S16 .f32) (main_arg7 : FVec F S16 .f32) (main_v49 : IVec S_ 1) (main_v66 : FVec F S1x16x1x1 .f32) (main_v68 : FVec F S2x16x15x20 .f32) (main_v69 : FVec F S1x16x1x1 .f32) : IVec S_ 1 :=
  let main_v70 : FVec F S1x16x1x1 .f32 := addf main_v66 main_v69
  let main_v71 : FVec F S1x16x1x1 .f32 := Host.sqrt main_v70
  let main_v72 : FVec F S2x16x15x20 .f32 := broadcastInDim S2x16x15x20 ![0, 1, 2, 3] bcast_S1x16x1x1_S2x16x15x20_0_1_2_3 main_v71
  let main_v73 : FVec F S2x16x15x20 .f32 := Host.divf main_v68 main_v72
  let main_v74 : FVec F S1x16x1x1 .f32 := broadcastInDim S1x16x1x1 ![1] bcast_S16_S1x16x1x1_1 main_arg3
  let main_v75 : FVec F S2x16x15x20 .f32 := broadcastInDim S2x16x15x20 ![0, 1, 2, 3] bcast_S1x16x1x1_S2x16x15x20_0_1_2_3 main_v74
  let main_v76 : FVec F S2x16x15x20 .f32 := mulf main_v73 main_v75
  let main_v77 : FVec F S1x16x1x1 .f32 := broadcastInDim S1x16x1x1 ![1] bcast_S16_S1x16x1x1_1 main_arg4
  let main_v78 : FVec F S2x16x15x20 .f32 := broadcastInDim S2x16x15x20 ![0, 1, 2, 3] bcast_S1x16x1x1_S2x16x15x20_0_1_2_3 main_v77
  let main_v79 : FVec F S2x16x15x20 .f32 := addf main_v76 main_v78
  let main_v80 : FVec F S2x16x15x20 .f32 := fn_relu (F := F) main_v79
  let main_cst_24 : FVec F S_ .f32 := constant S_ .f32 0x00000000#32
  let main_v81 : FVec F S2x16 .f32 := (fun x v => Host.reduceAdd x v reducesTo_S2x16x15x20_S2x16_d2_3 h_S_) main_v80 main_cst_24
  let main_v82 : FVec F S2x16x1x1 .f32 := broadcastInDim S2x16x1x1 ![0, 1] bcast_S2x16_S2x16x1x1_0_1 main_v81
  let main_cst_25 : FVec F S_ .f32 := constant S_ .f32 0x43960000#32
  let main_v83 : FVec F S2x16x1x1 .f32 := broadcastInDim S2x16x1x1 ![] bcast_S_S2x16x1x1 main_cst_25
  let main_v84 : FVec F S2x16x1x1 .f32 := Host.divf main_v82 main_v83
  let main_v85 : FVec F S2x16x1x1x1x1 .f32 := shapeCast S2x16x1x1x1x1 main_v84 shapeCasts_S2x16x1x1_S2x16x1x1x1x1
  let main_v86 : FVec F S16x2x1x1 .f32 := (fun l r => Host.dotGeneral dot_S16x16x1x1_S2x16x1x1x1x1_S16x2x1x1_123_135_0_024_n_n none l r) main_arg5 main_v85
  let main_v87 : FVec F S2x16x1x1 .f32 := (transpose S2x16x1x1 [1, 0, 2, 3] · transposes_S16x2x1x1_S2x16x1x1_1_0_2_3) main_v86
  let main_cst_26 : FVec F S_ .f32 := constant S_ .f32 0x00000000#32
  let main_v88 : FVec F S16 .f32 := (fun x v => Host.reduceAdd x v reducesTo_S2x16x1x1_S16_d0_2_3 h_S_) main_v87 main_cst_26
  let main_v89 : FVec F S1x16x1x1 .f32 := broadcastInDim S1x16x1x1 ![1] bcast_S16_S1x16x1x1_1 main_v88
  let main_cst_27 : FVec F S_ .f32 := constant S_ .f32 0x40000000#32
  fn_part5 (F := F) main_arg6 main_arg7 main_v49 main_v80 main_v87 main_v89 main_cst_27

def fn_part3 {F : FTy → Type} [FloatOps F] (main_arg1 : FVec F S16x64x16x16 .f32) (main_arg2 : FVec F S16 .f32) (main_arg3 : FVec F S16 .f32) (main_arg4 : FVec F S16 .f32) (main_arg5 : FVec F S16x16x1x1 .f32) (main_arg6 : FVec F S16 .f32) (main_arg7 : FVec F S16 .f32) (main_v49 : IVec S_ 1) (main_v50 : FVec F S2x64x15x16x20x16 .f32) : IVec S_ 1 :=
  let main_v51 : FVec F S16x2x15x20 .f32 := (fun l r => Host.dotGeneral dot_S16x64x16x16_S2x64x15x16x20x16_S16x2x15x20_123_135_0_024_n_n none l r) main_arg1 main_v50
  let main_v52 : FVec F S2x16x15x20 .f32 := (transpose S2x16x15x20 [1, 0, 2, 3] · transposes_S16x2x15x20_S2x16x15x20_1_0_2_3) main_v51
  let main_v53 : FVec F S1x16x1x1 .f32 := broadcastInDim S1x16x1x1 ![1] bcast_S16_S1x16x1x1_1 main_arg2
  let main_v54 : FVec F S2x16x15x20 .f32 := broadcastInDim S2x16x15x20 ![0, 1, 2, 3] bcast_S1x16x1x1_S2x16x15x20_0_1_2_3 main_v53
  let main_v55 : FVec F S2x16x15x20 .f32 := addf main_v52 main_v54
  let main_cst_19 : FVec F S_ .f32 := constant S_ .f32 0x00000000#32
  let main_v56 : FVec F S16 .f32 := (fun x v => Host.reduceAdd x v reducesTo_S2x16x15x20_S16_d0_2_3 h_S_) main_v55 main_cst_19
  let main_v57 : FVec F S1x16x1x1 .f32 := broadcastInDim S1x16x1x1 ![1] bcast_S16_S1x16x1x1_1 main_v56
  let main_cst_20 : FVec F S_ .f32 := constant S_ .f32 0x44160000#32
  let main_v58 : FVec F S1x16x1x1 .f32 := broadcastInDim S1x16x1x1 ![] bcast_S_S1x16x1x1 main_cst_20
  let main_v59 : FVec F S1x16x1x1 .f32 := Host.divf main_v57 main_v58
  let main_v60 : FVec F S2x16x15x20 .f32 := broadcastInDim S2x16x15x20 ![0, 1, 2, 3] bcast_S1x16x1x1_S2x16x15x20_0_1_2_3 main_v59
  let main_v61 : FVec F S2x16x15x20 .f32 := subf main_v55 main_v60
  let main_v62 : FVec F S2x16x15x20 .f32 := mulf main_v61 main_v61
  let main_cst_21 : FVec F S_ .f32 := constant S_ .f32 0x00000000#32
  let main_v63 : FVec F S16 .f32 := (fun x v => Host.reduceAdd x v reducesTo_S2x16x15x20_S16_d0_2_3 h_S_) main_v62 main_cst_21
  let main_v64 : FVec F S1x16x1x1 .f32 := broadcastInDim S1x16x1x1 ![1] bcast_S16_S1x16x1x1_1 main_v63
  let main_cst_22 : FVec F S_ .f32 := constant S_ .f32 0x44160000#32
  let main_v65 : FVec F S1x16x1x1 .f32 := broadcastInDim S1x16x1x1 ![] bcast_S_S1x16x1x1 main_cst_22
  let main_v66 : FVec F S1x16x1x1 .f32 := Host.divf main_v64 main_v65
  let main_v67 : FVec F S2x16x15x20 .f32 := broadcastInDim S2x16x15x20 ![0, 1, 2, 3] bcast_S1x16x1x1_S2x16x15x20_0_1_2_3 main_v59
  let main_v68 : FVec F S2x16x15x20 .f32 := subf main_v55 main_v67
  let main_cst_23 : FVec F S_ .f32 := constant S_ .f32 0x3727C5AC#32
  let main_v69 : FVec F S1x16x1x1 .f32 := broadcastInDim S1x16x1x1 ![] bcast_S_S1x16x1x1 main_cst_23
  fn_part4 (F := F) main_arg3 main_arg4 main_arg5 main_arg6 main_arg7 main_v49 main_v66 main_v68 main_v69

def fn_part2 {F : FTy → Type} [FloatOps F] (main_arg0 : FVec F S2x64x240x320 .f32) (main_arg1 : FVec F S16x64x16x16 .f32) (main_arg2 : FVec F S16 .f32) (main_arg3 : FVec F S16 .f32) (main_arg4 : FVec F S16 .f32) (main_arg5 : FVec F S16x16x1x1 .f32) (main_arg6 : FVec F S16 .f32) (main_arg7 : FVec F S16 .f32) (main_arg8 : FVec F S16x16 .f32) (main_arg9 : FVec F S16 .f32) (main_v29 : IVec S_ 1) (main_v32 : IVec S16 1) (main_c_12 : IVec S_ 1) : IVec S_ 1 :=
  let main_v33 : IVec S_ 1 := (fun x v => Host.reduce IntOp.andi x v reducesTo_S16_S_d0 h_S_) main_v32 main_c_12
  let main_v34 : IVec S_ 1 := andi main_v29 main_v33
  let main_v35 : FVec F S16 .f32 := Host.absf main_arg7
  let main_cst_13 : FVec F S_ .f32 := constant S_ .f32 0x7F800000#32
  let main_v36 : FVec F S16 .f32 := broadcastInDim S16 ![] bcast_S_S16 main_cst_13
  let main_v37 : IVec S16 1 := cmpf .olt main_v35 main_v36
  let main_c_14 : IVec S_ 1 := constantI S_ 1 1#1
  let main_v38 : IVec S_ 1 := (fun x v => Host.reduce IntOp.andi x v reducesTo_S16_S_d0 h_S_) main_v37 main_c_14
  let main_v39 : IVec S_ 1 := andi main_v34 main_v38
  let main_v40 : FVec F S16x16 .f32 := Host.absf main_arg8
  let main_cst_15 : FVec F S_ .f32 := constant S_ .f32 0x7F800000#32
  let main_v41 : FVec F S16x16 .f32 := broadcastInDim S16x16 ![] bcast_S_S16x16 main_cst_15
  let main_v42 : IVec S16x16 1 := cmpf .olt main_v40 main_v41
  let main_c_16 : IVec S_ 1 := constantI S_ 1 1#1
  let main_v43 : IVec S_ 1 := (fun x v => Host.reduce IntOp.andi x v reducesTo_S16x16_S_d0_1 h_S_) main_v42 main_c_16
  let main_v44 : IVec S_ 1 := andi main_v39 main_v43
  let main_v45 : FVec F S16 .f32 := Host.absf main_arg9
  let main_cst_17 : FVec F S_ .f32 := constant S_ .f32 0x7F800000#32
  let main_v46 : FVec F S16 .f32 := broadcastInDim S16 ![] bcast_S_S16 main_cst_17
  let main_v47 : IVec S16 1 := cmpf .olt main_v45 main_v46
  let main_c_18 : IVec S_ 1 := constantI S_ 1 1#1
  let main_v48 : IVec S_ 1 := (fun x v => Host.reduce IntOp.andi x v reducesTo_S16_S_d0 h_S_) main_v47 main_c_18
  let main_v49 : IVec S_ 1 := andi main_v44 main_v48
  let main_v50 : FVec F S2x64x15x16x20x16 .f32 := shapeCast S2x64x15x16x20x16 main_arg0 shapeCasts_S2x64x240x320_S2x64x15x16x20x16
  fn_part3 (F := F) main_arg1 main_arg2 main_arg3 main_arg4 main_arg5 main_arg6 main_arg7 main_v49 main_v50

def fn_part1 {F : FTy → Type} [FloatOps F] (main_arg0 : FVec F S2x64x240x320 .f32) (main_arg1 : FVec F S16x64x16x16 .f32) (main_arg2 : FVec F S16 .f32) (main_arg3 : FVec F S16 .f32) (main_arg4 : FVec F S16 .f32) (main_arg5 : FVec F S16x16x1x1 .f32) (main_arg6 : FVec F S16 .f32) (main_arg7 : FVec F S16 .f32) (main_arg8 : FVec F S16x16 .f32) (main_arg9 : FVec F S16 .f32) (main_v14 : IVec S_ 1) (main_v15 : FVec F S16 .f32) (main_cst_5 : FVec F S_ .f32) : IVec S_ 1 :=
  let main_v16 : FVec F S16 .f32 := broadcastInDim S16 ![] bcast_S_S16 main_cst_5
  let main_v17 : IVec S16 1 := cmpf .olt main_v15 main_v16
  let main_c_6 : IVec S_ 1 := constantI S_ 1 1#1
  let main_v18 : IVec S_ 1 := (fun x v => Host.reduce IntOp.andi x v reducesTo_S16_S_d0 h_S_) main_v17 main_c_6
  let main_v19 : IVec S_ 1 := andi main_v14 main_v18
  let main_v20 : FVec F S16 .f32 := Host.absf main_arg4
  let main_cst_7 : FVec F S_ .f32 := constant S_ .f32 0x7F800000#32
  let main_v21 : FVec F S16 .f32 := broadcastInDim S16 ![] bcast_S_S16 main_cst_7
  let main_v22 : IVec S16 1 := cmpf .olt main_v20 main_v21
  let main_c_8 : IVec S_ 1 := constantI S_ 1 1#1
  let main_v23 : IVec S_ 1 := (fun x v => Host.reduce IntOp.andi x v reducesTo_S16_S_d0 h_S_) main_v22 main_c_8
  let main_v24 : IVec S_ 1 := andi main_v19 main_v23
  let main_v25 : FVec F S16x16x1x1 .f32 := Host.absf main_arg5
  let main_cst_9 : FVec F S_ .f32 := constant S_ .f32 0x7F800000#32
  let main_v26 : FVec F S16x16x1x1 .f32 := broadcastInDim S16x16x1x1 ![] bcast_S_S16x16x1x1 main_cst_9
  let main_v27 : IVec S16x16x1x1 1 := cmpf .olt main_v25 main_v26
  let main_c_10 : IVec S_ 1 := constantI S_ 1 1#1
  let main_v28 : IVec S_ 1 := (fun x v => Host.reduce IntOp.andi x v reducesTo_S16x16x1x1_S_d0_1_2_3 h_S_) main_v27 main_c_10
  let main_v29 : IVec S_ 1 := andi main_v24 main_v28
  let main_v30 : FVec F S16 .f32 := Host.absf main_arg6
  let main_cst_11 : FVec F S_ .f32 := constant S_ .f32 0x7F800000#32
  let main_v31 : FVec F S16 .f32 := broadcastInDim S16 ![] bcast_S_S16 main_cst_11
  let main_v32 : IVec S16 1 := cmpf .olt main_v30 main_v31
  let main_c_12 : IVec S_ 1 := constantI S_ 1 1#1
  fn_part2 (F := F) main_arg0 main_arg1 main_arg2 main_arg3 main_arg4 main_arg5 main_arg6 main_arg7 main_arg8 main_arg9 main_v29 main_v32 main_c_12

def fn {F : FTy → Type} [FloatOps F] (main_arg0 : FVec F S2x64x240x320 .f32) (main_arg1 : FVec F S16x64x16x16 .f32) (main_arg2 : FVec F S16 .f32) (main_arg3 : FVec F S16 .f32) (main_arg4 : FVec F S16 .f32) (main_arg5 : FVec F S16x16x1x1 .f32) (main_arg6 : FVec F S16 .f32) (main_arg7 : FVec F S16 .f32) (main_arg8 : FVec F S16x16 .f32) (main_arg9 : FVec F S16 .f32) : IVec S_ 1 :=
  let main_v0 : FVec F S2x64x240x320 .f32 := Host.absf main_arg0
  let main_cst : FVec F S_ .f32 := constant S_ .f32 0x7F800000#32
  let main_v1 : FVec F S2x64x240x320 .f32 := broadcastInDim S2x64x240x320 ![] bcast_S_S2x64x240x320 main_cst
  let main_v2 : IVec S2x64x240x320 1 := cmpf .olt main_v0 main_v1
  let main_c : IVec S_ 1 := constantI S_ 1 1#1
  let main_v3 : IVec S_ 1 := (fun x v => Host.reduce IntOp.andi x v reducesTo_S2x64x240x320_S_d0_1_2_3 h_S_) main_v2 main_c
  let main_c_0 : IVec S_ 1 := constantI S_ 1 1#1
  let main_v4 : IVec S_ 1 := andi main_c_0 main_v3
  let main_v5 : FVec F S16x64x16x16 .f32 := Host.absf main_arg1
  let main_cst_1 : FVec F S_ .f32 := constant S_ .f32 0x7F800000#32
  let main_v6 : FVec F S16x64x16x16 .f32 := broadcastInDim S16x64x16x16 ![] bcast_S_S16x64x16x16 main_cst_1
  let main_v7 : IVec S16x64x16x16 1 := cmpf .olt main_v5 main_v6
  let main_c_2 : IVec S_ 1 := constantI S_ 1 1#1
  let main_v8 : IVec S_ 1 := (fun x v => Host.reduce IntOp.andi x v reducesTo_S16x64x16x16_S_d0_1_2_3 h_S_) main_v7 main_c_2
  let main_v9 : IVec S_ 1 := andi main_v4 main_v8
  let main_v10 : FVec F S16 .f32 := Host.absf main_arg2
  let main_cst_3 : FVec F S_ .f32 := constant S_ .f32 0x7F800000#32
  let main_v11 : FVec F S16 .f32 := broadcastInDim S16 ![] bcast_S_S16 main_cst_3
  let main_v12 : IVec S16 1 := cmpf .olt main_v10 main_v11
  let main_c_4 : IVec S_ 1 := constantI S_ 1 1#1
  let main_v13 : IVec S_ 1 := (fun x v => Host.reduce IntOp.andi x v reducesTo_S16_S_d0 h_S_) main_v12 main_c_4
  let main_v14 : IVec S_ 1 := andi main_v9 main_v13
  let main_v15 : FVec F S16 .f32 := Host.absf main_arg3
  let main_cst_5 : FVec F S_ .f32 := constant S_ .f32 0x7F800000#32
  fn_part1 (F := F) main_arg0 main_arg1 main_arg2 main_arg3 main_arg4 main_arg5 main_arg6 main_arg7 main_arg8 main_arg9 main_v14 main_v15 main_cst_5
-- ==== Kernel.lean ====
abbrev S2x64x240x320 : Shape := ⟨4, ![2, 64, 240, 320]⟩
abbrev S16x64x16x16 : Shape := ⟨4, ![16, 64, 16, 16]⟩
abbrev S16 : Shape := ⟨1, ![16]⟩
abbrev S16x16x1x1 : Shape := ⟨4, ![16, 16, 1, 1]⟩
abbrev S16x16 : Shape := ⟨2, ![16, 16]⟩
abbrev S80x20 : Shape := ⟨2, ![80, 20]⟩
abbrev S60x15 : Shape := ⟨2, ![60, 15]⟩
abbrev S960x80 : Shape := ⟨2, ![960, 80]⟩
abbrev S16x16x64x16 : Shape := ⟨4, ![16, 16, 64, 16]⟩
abbrev S256x1024 : Shape := ⟨2, ![256, 1024]⟩
abbrev S10x60x16 : Shape := ⟨3, ![10, 60, 16]⟩
abbrev S1x64x48x320 : Shape := ⟨4, ![1, 64, 48, 320]⟩
abbrev S1x60x16 : Shape := ⟨3, ![1, 60, 16]⟩
abbrev S64x48x320 : Shape := ⟨3, ![64, 48, 320]⟩
abbrev S64x3x16x320 : Shape := ⟨4, ![64, 3, 16, 320]⟩
abbrev S64x1x16x320 : Shape := ⟨4, ![64, 1, 16, 320]⟩
abbrev S64x16x320 : Shape := ⟨3, ![64, 16, 320]⟩
abbrev S1024x320 : Shape := ⟨2, ![1024, 320]⟩
abbrev S1024x960 : Shape := ⟨2, ![1024, 960]⟩
abbrev S256x960 : Shape := ⟨2, ![256, 960]⟩
abbrev S16x16x960 : Shape := ⟨3, ![16, 16, 960]⟩
abbrev S16x960 : Shape := ⟨2, ![16, 960]⟩
abbrev S960x16 : Shape := ⟨2, ![960, 16]⟩
abbrev S60x16x16 : Shape := ⟨3, ![60, 16, 16]⟩
abbrev S60x16 : Shape := ⟨2, ![60, 16]⟩
abbrev S600x16 : Shape := ⟨2, ![600, 16]⟩
abbrev S1x16 : Shape := ⟨2, ![1, 16]⟩
abbrev S_ : Shape := ⟨0, ![]⟩
abbrev S16x1x1x16 : Shape := ⟨4, ![16, 1, 1, 16]⟩
abbrev S16x60x15x16 : Shape := ⟨4, ![16, 60, 15, 16]⟩
abbrev S1x60x15x1 : Shape := ⟨4, ![1, 60, 15, 1]⟩
abbrev S960x240 : Shape := ⟨2, ![960, 240]⟩
abbrev S2x960x80 : Shape := ⟨3, ![2, 960, 80]⟩
abbrev S300x16 : Shape := ⟨2, ![300, 16]⟩
abbrev S16x300 : Shape := ⟨2, ![16, 300]⟩
abbrev S300x300 : Shape := ⟨2, ![300, 300]⟩
abbrev S300 : Shape := ⟨1, ![300]⟩
abbrev S300x1 : Shape := ⟨2, ![300, 1]⟩
abbrev S1x300 : Shape := ⟨2, ![1, 300]⟩
abbrev S20x300 : Shape := ⟨2, ![20, 300]⟩
abbrev S20x300x1 : Shape := ⟨3, ![20, 300, 1]⟩
abbrev S20x1x300 : Shape := ⟨3, ![20, 1, 300]⟩
abbrev S20x300x300 : Shape := ⟨3, ![20, 300, 300]⟩
abbrev S20x16 : Shape := ⟨2, ![20, 16]⟩
abbrev S16x20 : Shape := ⟨2, ![16, 20]⟩
abbrev S20x80 : Shape := ⟨2, ![20, 80]⟩
abbrev S16x80 : Shape := ⟨2, ![16, 80]⟩
abbrev S240x80 : Shape := ⟨2, ![240, 80]⟩
abbrev S1x960x80 : Shape := ⟨3, ![1, 960, 80]⟩
abbrev S2x16x60x80 : Shape := ⟨4, ![2, 16, 60, 80]⟩

abbrev nBuf : Space → Nat
  | .hbm => 41
  | .vmem => 18
  | .smem => 0
  | _ => 0

abbrev bufTy : (tb : Table) → Fin (tcTables nBuf tb) → BufTy
  | .hbm, ⟨0, _⟩ => ⟨S2x64x240x320, .f32⟩
  | .hbm, ⟨1, _⟩ => ⟨S16x64x16x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16x16x1x1, .f32⟩
  | .hbm, ⟨6, _⟩ => ⟨S16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S80x20, .f32⟩
  | .hbm, ⟨11, _⟩ => ⟨S60x15, .f32⟩
  | .hbm, ⟨12, _⟩ => ⟨S960x80, .f32⟩
  | .hbm, ⟨13, _⟩ => ⟨S16x16x64x16, .f32⟩
  | .hbm, ⟨14, _⟩ => ⟨S256x1024, .f32⟩
  | .hbm, ⟨15, _⟩ => ⟨S256x1024, .bf16⟩
  | .hbm, ⟨16, _⟩ => ⟨S10x60x16, .f32⟩
  | .hbm, ⟨17, _⟩ => ⟨S600x16, .f32⟩
  | .hbm, ⟨18, _⟩ => ⟨S1x16, .f32⟩
  | .hbm, ⟨19, _⟩ => ⟨S1x16, .f32⟩
  | .hbm, ⟨20, _⟩ => ⟨S1x16, .f32⟩
  | .hbm, ⟨21, _⟩ => ⟨S16x16, .f32⟩
  | .hbm, ⟨22, _⟩ => ⟨S1x16, .f32⟩
  | .hbm, ⟨23, _⟩ => ⟨S1x16, .f32⟩
  | .hbm, ⟨24, _⟩ => ⟨S1x16, .f32⟩
  | .hbm, ⟨25, _⟩ => ⟨S16x16, .i32⟩
  | .hbm, ⟨26, _⟩ => ⟨S16x16, .i32⟩
  | .hbm, ⟨27, _⟩ => ⟨S_, .i32⟩
  | .hbm, ⟨28, _⟩ => ⟨S16x16, .i32⟩
  | .hbm, ⟨29, _⟩ => ⟨S16x16, .i32⟩
  | .hbm, ⟨30, _⟩ => ⟨S16x16, .i1⟩
  | .hbm, ⟨31, _⟩ => ⟨S16x1x1x16, .i1⟩
  | .hbm, ⟨32, _⟩ => ⟨S16x60x15x16, .i1⟩
  | .hbm, ⟨33, _⟩ => ⟨S1x60x15x1, .f32⟩
  | .hbm, ⟨34, _⟩ => ⟨S16x60x15x16, .f32⟩
  | .hbm, ⟨35, _⟩ => ⟨S_, .f32⟩
  | .hbm, ⟨36, _⟩ => ⟨S16x60x15x16, .f32⟩
  | .hbm, ⟨37, _⟩ => ⟨S16x60x15x16, .f32⟩
  | .hbm, ⟨38, _⟩ => ⟨S960x240, .f32⟩
  | .hbm, ⟨39, _⟩ => ⟨S2x960x80, .f32⟩
  | .hbm, ⟨40, _⟩ => ⟨S2x16x60x80, .f32⟩
  | .local _ .vmem, ⟨0, _⟩ => ⟨S1x64x48x320, .f32⟩
  | .local _ .vmem, ⟨1, _⟩ => ⟨S1x64x48x320, .f32⟩
  | .local _ .vmem, ⟨2, _⟩ => ⟨S256x1024, .bf16⟩
  | .local _ .vmem, ⟨3, _⟩ => ⟨S1x60x16, .f32⟩
  | .local _ .vmem, ⟨4, _⟩ => ⟨S1x60x16, .f32⟩
  | .local _ .vmem, ⟨5, _⟩ => ⟨S600x16, .f32⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S16x16, .f32⟩
  | .local _ .vmem, ⟨10, _⟩ => ⟨S1x16, .f32⟩
  | .local _ .vmem, ⟨11, _⟩ => ⟨S1x16, .f32⟩
  | .local _ .vmem, ⟨12, _⟩ => ⟨S16x16, .f32⟩
  | .local _ .vmem, ⟨13, _⟩ => ⟨S1x16, .f32⟩
  | .local _ .vmem, ⟨14, _⟩ => ⟨S80x20, .f32⟩
  | .local _ .vmem, ⟨15, _⟩ => ⟨S960x240, .f32⟩
  | .local _ .vmem, ⟨16, _⟩ => ⟨S960x80, .f32⟩
  | .local _ .vmem, ⟨17, _⟩ => ⟨S2x960x80, .f32⟩
  | _, _ => ⟨S2x64x240x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg12_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17

abbrev nD : Nat := 1
abbrev τ : Topo := Topo.v7x

variable {F : FTy → Type} [FloatOps F]

abbrev grid0 : Pipeline.Grid := ⟨2, ![2, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x64x48x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x60x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := .none

abbrev stage1_0 : Fin 1 → Memref sig .tc .vmem S600x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S80x20 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S960x240 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S960x80 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S2x960x80 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
-- ==== ReferenceIdeal.lean ====
abbrev S2x64x240x320 : Shape := ⟨4, ![2, 64, 240, 320]⟩
abbrev S16x64x16x16 : Shape := ⟨4, ![16, 64, 16, 16]⟩
abbrev S16 : Shape := ⟨1, ![16]⟩
abbrev S16x16x1x1 : Shape := ⟨4, ![16, 16, 1, 1]⟩
abbrev S16x16 : Shape := ⟨2, ![16, 16]⟩
abbrev S16x60x80 : Shape := ⟨3, ![16, 60, 80]⟩
abbrev S1x16x60x80 : Shape := ⟨4, ![1, 16, 60, 80]⟩
abbrev S2x64x15x16x20x16 : Shape := ⟨6, ![2, 64, 15, 16, 20, 16]⟩
abbrev S16x2x15x20 : Shape := ⟨4, ![16, 2, 15, 20]⟩
abbrev S2x16x15x20 : Shape := ⟨4, ![2, 16, 15, 20]⟩
abbrev S1x16x1x1 : Shape := ⟨4, ![1, 16, 1, 1]⟩
abbrev S_ : Shape := ⟨0, ![]⟩
abbrev S2x16 : Shape := ⟨2, ![2, 16]⟩
abbrev S2x16x1x1 : Shape := ⟨4, ![2, 16, 1, 1]⟩
abbrev S2x16x1x1x1x1 : Shape := ⟨6, ![2, 16, 1, 1, 1, 1]⟩
abbrev S16x2x1x1 : Shape := ⟨4, ![16, 2, 1, 1]⟩
abbrev S2x15x20x16 : Shape := ⟨4, ![2, 15, 20, 16]⟩
abbrev S2x300x16 : Shape := ⟨3, ![2, 300, 16]⟩
abbrev S2x300x1x16 : Shape := ⟨4, ![2, 300, 1, 16]⟩
abbrev S2x1x300x16 : Shape := ⟨4, ![2, 1, 300, 16]⟩
abbrev S2x300x300x16 : Shape := ⟨4, ![2, 300, 300, 16]⟩
abbrev S2x300x300 : Shape := ⟨3, ![2, 300, 300]⟩
abbrev S8 : Shape := ⟨1, ![8]⟩
abbrev S8x1 : Shape := ⟨2, ![8, 1]⟩
abbrev S2x300x8 : Shape := ⟨3, ![2, 300, 8]⟩
abbrev S2 : Shape := ⟨1, ![2]⟩
abbrev S2x1x1 : Shape := ⟨3, ![2, 1, 1]⟩
abbrev S2x300x8x1 : Shape := ⟨4, ![2, 300, 8, 1]⟩
abbrev S2x300x8x2 : Shape := ⟨4, ![2, 300, 8, 2]⟩
abbrev S2x300x8x16 : Shape := ⟨4, ![2, 300, 8, 16]⟩
abbrev S600x8x16 : Shape := ⟨3, ![600, 8, 16]⟩
abbrev S1x1x16 : Shape := ⟨3, ![1, 1, 16]⟩
abbrev S600x16 : Shape := ⟨2, ![600, 16]⟩
abbrev S2x16x300 : Shape := ⟨3, ![2, 16, 300]⟩
abbrev S2x16x1x20 : Shape := ⟨4, ![2, 16, 1, 20]⟩
abbrev S2x16x14x20 : Shape := ⟨4, ![2, 16, 14, 20]⟩
abbrev S2x16x15x1x20 : Shape := ⟨5, ![2, 16, 15, 1, 20]⟩
abbrev S2x16x15x2x20 : Shape := ⟨5, ![2, 16, 15, 2, 20]⟩
abbrev S2x16x30x20 : Shape := ⟨4, ![2, 16, 30, 20]⟩
abbrev S2x16x30x1 : Shape := ⟨4, ![2, 16, 30, 1]⟩
abbrev S2x16x30x19 : Shape := ⟨4, ![2, 16, 30, 19]⟩
abbrev S2x16x30x20x1 : Shape := ⟨5, ![2, 16, 30, 20, 1]⟩
abbrev S2x16x30x20x2 : Shape := ⟨5, ![2, 16, 30, 20, 2]⟩
abbrev S2x16x30x40 : Shape := ⟨4, ![2, 16, 30, 40]⟩
abbrev S2x16x1x40 : Shape := ⟨4, ![2, 16, 1, 40]⟩
abbrev S2x16x29x40 : Shape := ⟨4, ![2, 16, 29, 40]⟩
abbrev S2x16x30x1x40 : Shape := ⟨5, ![2, 16, 30, 1, 40]⟩
abbrev S2x16x30x2x40 : Shape := ⟨5, ![2, 16, 30, 2, 40]⟩
abbrev S2x16x60x40 : Shape := ⟨4, ![2, 16, 60, 40]⟩
abbrev S2x16x60x1 : Shape := ⟨4, ![2, 16, 60, 1]⟩
abbrev S2x16x60x39 : Shape := ⟨4, ![2, 16, 60, 39]⟩
abbrev S2x16x60x40x1 : Shape := ⟨5, ![2, 16, 60, 40, 1]⟩
abbrev S2x16x60x40x2 : Shape := ⟨5, ![2, 16, 60, 40, 2]⟩
abbrev S2x16x60x80 : Shape := ⟨4, ![2, 16, 60, 80]⟩

abbrev nBuf : Space → Nat
  | .hbm => 264
  | .vmem => 0
  | .smem => 0
  | _ => 0

abbrev hbmTy0_0 (i : Nat) : BufTy := match i % 128 with
  | 0 => ⟨S2x64x240x320, .f32⟩
  | 1 => ⟨S16x64x16x16, .f32⟩
  | 2 => ⟨S16, .f32⟩
  | 3 => ⟨S16, .f32⟩
  | 4 => ⟨S16, .f32⟩
  | 5 => ⟨S16x16x1x1, .f32⟩
  | 6 => ⟨S16, .f32⟩
  | 7 => ⟨S16, .f32⟩
  | 8 => ⟨S16x16, .f32⟩
  | 9 => ⟨S16, .f32⟩
  | 10 => ⟨S16x60x80, .f32⟩
  | 11 => ⟨S1x16x60x80, .f32⟩
  | 12 => ⟨S2x64x15x16x20x16, .f32⟩
  | 13 => ⟨S16x2x15x20, .f32⟩
  | 14 => ⟨S2x16x15x20, .f32⟩
  | 15 => ⟨S1x16x1x1, .f32⟩
  | 16 => ⟨S2x16x15x20, .f32⟩
  | 17 => ⟨S2x16x15x20, .f32⟩
  | 18 => ⟨S_, .f32⟩
  | 19 => ⟨S16, .f32⟩
  | 20 => ⟨S1x16x1x1, .f32⟩
  | 21 => ⟨S_, .f32⟩
  | 22 => ⟨S1x16x1x1, .f32⟩
  | 23 => ⟨S1x16x1x1, .f32⟩
  | 24 => ⟨S2x16x15x20, .f32⟩
  | 25 => ⟨S2x16x15x20, .f32⟩
  | 26 => ⟨S2x16x15x20, .f32⟩
  | 27 => ⟨S_, .f32⟩
  | 28 => ⟨S16, .f32⟩
  | 29 => ⟨S1x16x1x1, .f32⟩
  | 30 => ⟨S_, .f32⟩
  | 31 => ⟨S1x16x1x1, .f32⟩
  | 32 => ⟨S1x16x1x1, .f32⟩
  | 33 => ⟨S2x16x15x20, .f32⟩
  | 34 => ⟨S2x16x15x20, .f32⟩
  | 35 => ⟨S_, .f32⟩
  | 36 => ⟨S1x16x1x1, .f32⟩
  | 37 => ⟨S1x16x1x1, .f32⟩
  | 38 => ⟨S1x16x1x1, .f32⟩
  | 39 => ⟨S2x16x15x20, .f32⟩
  | 40 => ⟨S2x16x15x20, .f32⟩
  | 41 => ⟨S1x16x1x1, .f32⟩
  | 42 => ⟨S2x16x15x20, .f32⟩
  | 43 => ⟨S2x16x15x20, .f32⟩
  | 44 => ⟨S1x16x1x1, .f32⟩
  | 45 => ⟨S2x16x15x20, .f32⟩
  | 46 => ⟨S2x16x15x20, .f32⟩
  | 47 => ⟨S_, .f32⟩
  | 48 => ⟨S2x16x15x20, .f32⟩
  | 49 => ⟨S2x16x15x20, .f32⟩
  | 50 => ⟨S_, .f32⟩
  | 51 => ⟨S2x16, .f32⟩
  | 52 => ⟨S2x16x1x1, .f32⟩
  | 53 => ⟨S_, .f32⟩
  | 54 => ⟨S2x16x1x1, .f32⟩
  | 55 => ⟨S2x16x1x1, .f32⟩
  | 56 => ⟨S2x16x1x1x1x1, .f32⟩
  | 57 => ⟨S16x2x1x1, .f32⟩
  | 58 => ⟨S2x16x1x1, .f32⟩
  | 59 => ⟨S_, .f32⟩
  | 60 => ⟨S16, .f32⟩
  | 61 => ⟨S1x16x1x1, .f32⟩
  | 62 => ⟨S_, .f32⟩
  | 63 => ⟨S1x16x1x1, .f32⟩
  | 64 => ⟨S1x16x1x1, .f32⟩
  | 65 => ⟨S2x16x1x1, .f32⟩
  | 66 => ⟨S2x16x1x1, .f32⟩
  | 67 => ⟨S2x16x1x1, .f32⟩
  | 68 => ⟨S_, .f32⟩
  | 69 => ⟨S16, .f32⟩
  | 70 => ⟨S1x16x1x1, .f32⟩
  | 71 => ⟨S_, .f32⟩
  | 72 => ⟨S1x16x1x1, .f32⟩
  | 73 => ⟨S1x16x1x1, .f32⟩
  | 74 => ⟨S2x16x1x1, .f32⟩
  | 75 => ⟨S2x16x1x1, .f32⟩
  | 76 => ⟨S_, .f32⟩
  | 77 => ⟨S1x16x1x1, .f32⟩
  | 78 => ⟨S1x16x1x1, .f32⟩
  | 79 => ⟨S1x16x1x1, .f32⟩
  | 80 => ⟨S2x16x1x1, .f32⟩
  | 81 => ⟨S2x16x1x1, .f32⟩
  | 82 => ⟨S1x16x1x1, .f32⟩
  | 83 => ⟨S2x16x1x1, .f32⟩
  | 84 => ⟨S2x16x1x1, .f32⟩
  | 85 => ⟨S1x16x1x1, .f32⟩
  | 86 => ⟨S2x16x1x1, .f32⟩
  | 87 => ⟨S2x16x1x1, .f32⟩
  | 88 => ⟨S2x16x1x1, .f32⟩
  | 89 => ⟨S2x16x1x1, .f32⟩
  | 90 => ⟨S_, .f32⟩
  | 91 => ⟨S2x16x1x1, .f32⟩
  | 92 => ⟨S2x16x1x1, .f32⟩
  | 93 => ⟨S_, .f32⟩
  | 94 => ⟨S2x16x1x1, .f32⟩
  | 95 => ⟨S2x16x1x1, .f32⟩
  | 96 => ⟨S2x16x15x20, .f32⟩
  | 97 => ⟨S2x16x15x20, .f32⟩
  | 98 => ⟨S2x15x20x16, .f32⟩
  | 99 => ⟨S2x300x16, .f32⟩
  | 100 => ⟨S2x300x1x16, .f32⟩
  | 101 => ⟨S2x1x300x16, .f32⟩
  | 102 => ⟨S2x300x300x16, .f32⟩
  | 103 => ⟨S2x300x300x16, .f32⟩
  | 104 => ⟨S2x300x300x16, .f32⟩
  | 105 => ⟨S2x300x300x16, .f32⟩
  | 106 => ⟨S_, .f32⟩
  | 107 => ⟨S2x300x300, .f32⟩
  | 108 => ⟨S2x300x300, .f32⟩
  | 109 => ⟨S8, .f32⟩
  | 110 => ⟨S_, .f32⟩
  | 111 => ⟨S8, .f32⟩
  | 112 => ⟨S8, .f32⟩
  | 113 => ⟨S_, .f32⟩
  | 114 => ⟨S8, .f32⟩
  | 115 => ⟨S8, .f32⟩
  | 116 => ⟨S8, .i32⟩
  | 117 => ⟨S2x300x300, .f32⟩
  | 118 => ⟨S2x300x300, .i32⟩
  | 119 => ⟨S_, .i32⟩
  | 120 => ⟨S8, .i32⟩
  | 121 => ⟨S8, .i1⟩
  | 122 => ⟨S_, .i32⟩
  | 123 => ⟨S8, .i32⟩
  | 124 => ⟨S8, .i32⟩
  | 125 => ⟨S8, .i32⟩
  | 126 => ⟨S8x1, .i32⟩
  | 127 => ⟨S2x300x8, .i32⟩
  | _ => ⟨S2x64x240x320, .f32⟩

abbrev hbmTy0_1 (i : Nat) : BufTy := match i % 128 with
  | 0 => ⟨S2, .i32⟩
  | 1 => ⟨S2x1x1, .i32⟩
  | 2 => ⟨S2x300x8, .i32⟩
  | 3 => ⟨S_, .i32⟩
  | 4 => ⟨S2x300x8, .i32⟩
  | 5 => ⟨S2x300x8, .i1⟩
  | 6 => ⟨S_, .i32⟩
  | 7 => ⟨S2x300x8, .i32⟩
  | 8 => ⟨S2x300x8, .i32⟩
  | 9 => ⟨S2x300x8, .i32⟩
  | 10 => ⟨S_, .i32⟩
  | 11 => ⟨S2x300x8, .i32⟩
  | 12 => ⟨S2x300x8, .i1⟩
  | 13 => ⟨S_, .i32⟩
  | 14 => ⟨S2x300x8, .i32⟩
  | 15 => ⟨S2x300x8, .i32⟩
  | 16 => ⟨S2x300x8, .i32⟩
  | 17 => ⟨S2x300x8x1, .i32⟩
  | 18 => ⟨S2x300x8x1, .i32⟩
  | 19 => ⟨S2x300x8x2, .i32⟩
  | 20 => ⟨S2x300x8x16, .f32⟩
  | 21 => ⟨S2x300x1x16, .f32⟩
  | 22 => ⟨S2x300x8x16, .f32⟩
  | 23 => ⟨S2x300x8x16, .f32⟩
  | 24 => ⟨S600x8x16, .f32⟩
  | 25 => ⟨S16x16, .f32⟩
  | 26 => ⟨S600x8x16, .f32⟩
  | 27 => ⟨S1x1x16, .f32⟩
  | 28 => ⟨S600x8x16, .f32⟩
  | 29 => ⟨S600x8x16, .f32⟩
  | 30 => ⟨S_, .f32⟩
  | 31 => ⟨S600x16, .f32⟩
  | 32 => ⟨S_, .f32⟩
  | 33 => ⟨S600x16, .f32⟩
  | 34 => ⟨S600x16, .f32⟩
  | 35 => ⟨S2x300x16, .f32⟩
  | 36 => ⟨S2x16x300, .f32⟩
  | 37 => ⟨S2x16x15x20, .f32⟩
  | 38 => ⟨S2x16x1x20, .f32⟩
  | 39 => ⟨S2x16x14x20, .f32⟩
  | 40 => ⟨S2x16x15x20, .f32⟩
  | 41 => ⟨S2x16x14x20, .f32⟩
  | 42 => ⟨S2x16x1x20, .f32⟩
  | 43 => ⟨S2x16x15x20, .f32⟩
  | 44 => ⟨S_, .f32⟩
  | 45 => ⟨S2x16x15x20, .f32⟩
  | 46 => ⟨S2x16x15x20, .f32⟩
  | 47 => ⟨S_, .f32⟩
  | 48 => ⟨S2x16x15x20, .f32⟩
  | 49 => ⟨S2x16x15x20, .f32⟩
  | 50 => ⟨S2x16x15x20, .f32⟩
  | 51 => ⟨S_, .f32⟩
  | 52 => ⟨S2x16x15x20, .f32⟩
  | 53 => ⟨S2x16x15x20, .f32⟩
  | 54 => ⟨S_, .f32⟩
  | 55 => ⟨S2x16x15x20, .f32⟩
  | 56 => ⟨S2x16x15x20, .f32⟩
  | 57 => ⟨S2x16x15x20, .f32⟩
  | 58 => ⟨S2x16x15x1x20, .f32⟩
  | 59 => ⟨S2x16x15x1x20, .f32⟩
  | 60 => ⟨S2x16x15x2x20, .f32⟩
  | 61 => ⟨S2x16x30x20, .f32⟩
  | 62 => ⟨S2x16x30x1, .f32⟩
  | 63 => ⟨S2x16x30x19, .f32⟩
  | 64 => ⟨S2x16x30x20, .f32⟩
  | 65 => ⟨S2x16x30x19, .f32⟩
  | 66 => ⟨S2x16x30x1, .f32⟩
  | 67 => ⟨S2x16x30x20, .f32⟩
  | 68 => ⟨S_, .f32⟩
  | 69 => ⟨S2x16x30x20, .f32⟩
  | 70 => ⟨S2x16x30x20, .f32⟩
  | 71 => ⟨S_, .f32⟩
  | 72 => ⟨S2x16x30x20, .f32⟩
  | 73 => ⟨S2x16x30x20, .f32⟩
  | 74 => ⟨S2x16x30x20, .f32⟩
  | 75 => ⟨S_, .f32⟩
  | 76 => ⟨S2x16x30x20, .f32⟩
  | 77 => ⟨S2x16x30x20, .f32⟩
  | 78 => ⟨S_, .f32⟩
  | 79 => ⟨S2x16x30x20, .f32⟩
  | 80 => ⟨S2x16x30x20, .f32⟩
  | 81 => ⟨S2x16x30x20, .f32⟩
  | 82 => ⟨S2x16x30x20x1, .f32⟩
  | 83 => ⟨S2x16x30x20x1, .f32⟩
  | 84 => ⟨S2x16x30x20x2, .f32⟩
  | 85 => ⟨S2x16x30x40, .f32⟩
  | 86 => ⟨S2x16x1x40, .f32⟩
  | 87 => ⟨S2x16x29x40, .f32⟩
  | 88 => ⟨S2x16x30x40, .f32⟩
  | 89 => ⟨S2x16x29x40, .f32⟩
  | 90 => ⟨S2x16x1x40, .f32⟩
  | 91 => ⟨S2x16x30x40, .f32⟩
  | 92 => ⟨S_, .f32⟩
  | 93 => ⟨S2x16x30x40, .f32⟩
  | 94 => ⟨S2x16x30x40, .f32⟩
  | 95 => ⟨S_, .f32⟩
  | 96 => ⟨S2x16x30x40, .f32⟩
  | 97 => ⟨S2x16x30x40, .f32⟩
  | 98 => ⟨S2x16x30x40, .f32⟩
  | 99 => ⟨S_, .f32⟩
  | 100 => ⟨S2x16x30x40, .f32⟩
  | 101 => ⟨S2x16x30x40, .f32⟩
  | 102 => ⟨S_, .f32⟩
  | 103 => ⟨S2x16x30x40, .f32⟩
  | 104 => ⟨S2x16x30x40, .f32⟩
  | 105 => ⟨S2x16x30x40, .f32⟩
  | 106 => ⟨S2x16x30x1x40, .f32⟩
  | 107 => ⟨S2x16x30x1x40, .f32⟩
  | 108 => ⟨S2x16x30x2x40, .f32⟩
  | 109 => ⟨S2x16x60x40, .f32⟩
  | 110 => ⟨S2x16x60x1, .f32⟩
  | 111 => ⟨S2x16x60x39, .f32⟩
  | 112 => ⟨S2x16x60x40, .f32⟩
  | 113 => ⟨S2x16x60x39, .f32⟩
  | 114 => ⟨S2x16x60x1, .f32⟩
  | 115 => ⟨S2x16x60x40, .f32⟩
  | 116 => ⟨S_, .f32⟩
  | 117 => ⟨S2x16x60x40, .f32⟩
  | 118 => ⟨S2x16x60x40, .f32⟩
  | 119 => ⟨S_, .f32⟩
  | 120 => ⟨S2x16x60x40, .f32⟩
  | 121 => ⟨S2x16x60x40, .f32⟩
  | 122 => ⟨S2x16x60x40, .f32⟩
  | 123 => ⟨S_, .f32⟩
  | 124 => ⟨S2x16x60x40, .f32⟩
  | 125 => ⟨S2x16x60x40, .f32⟩
  | 126 => ⟨S_, .f32⟩
  | 127 => ⟨S2x16x60x40, .f32⟩
  | _ => ⟨S2x64x240x320, .f32⟩

abbrev hbmTy0_2 (i : Nat) : BufTy := match i % 128 with
  | 0 => ⟨S2x16x60x40, .f32⟩
  | 1 => ⟨S2x16x60x40, .f32⟩
  | 2 => ⟨S2x16x60x40x1, .f32⟩
  | 3 => ⟨S2x16x60x40x1, .f32⟩
  | 4 => ⟨S2x16x60x40x2, .f32⟩
  | 5 => ⟨S2x16x60x80, .f32⟩
  | 6 => ⟨S2x16x60x80, .f32⟩
  | 7 => ⟨S2x16x60x80, .f32⟩
  | _ => ⟨S2x64x240x320, .f32⟩

abbrev hbmTy (i : Nat) : BufTy := match i / 128 with
  | 0 => hbmTy0_0 i
  | 1 => hbmTy0_1 i
  | 2 => hbmTy0_2 i
  | _ => ⟨S2x64x240x320, .f32⟩

abbrev bufTy : (tb : Table) → Fin (tcTables nBuf tb) → BufTy
  | .hbm, ⟨i, _⟩ => hbmTy i
  | _, _ => ⟨S2x64x240x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_call1_v0 : Ref sig .tc := ⟨.hbm, 105, rfl⟩
abbrev main_call1_cst : Ref sig .tc := ⟨.hbm, 106, rfl⟩
abbrev main_call1_v1 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_values : Ref sig .tc := ⟨.hbm, 117, rfl⟩
abbrev main_indices : Ref sig .tc := ⟨.hbm, 118, rfl⟩
abbrev main_c : Ref sig .tc := ⟨.hbm, 119, rfl⟩
abbrev main_v85 : Ref sig .tc := ⟨.hbm, 120, rfl⟩
abbrev main_v86 : Ref sig .tc := ⟨.hbm, 121, rfl⟩
abbrev main_c_16 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_19 : Ref sig .tc := ⟨.hbm, 138, rfl⟩
abbrev main_v100 : Ref sig .tc := ⟨.hbm, 139, rfl⟩
abbrev main_v101 : Ref sig .tc := ⟨.hbm, 140, rfl⟩
abbrev main_c_20 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_21 : Ref sig .tc := ⟨.hbm, 158, rfl⟩
abbrev main_v118 : Ref sig .tc := ⟨.hbm, 159, rfl⟩
abbrev main_cst_22 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_23 : Ref sig .tc := ⟨.hbm, 172, rfl⟩
abbrev main_v130 : Ref sig .tc := ⟨.hbm, 173, rfl⟩
abbrev main_v131 : Ref sig .tc := ⟨.hbm, 174, rfl⟩
abbrev main_cst_24 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_25 : Ref sig .tc := ⟨.hbm, 179, rfl⟩
abbrev main_v135 : Ref sig .tc := ⟨.hbm, 180, rfl⟩
abbrev main_v136 : Ref sig .tc := ⟨.hbm, 181, rfl⟩
abbrev main_cst_26 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_27 : Ref sig .tc := ⟨.hbm, 196, rfl⟩
abbrev main_v150 : Ref sig .tc := ⟨.hbm, 197, rfl⟩
abbrev main_v151 : Ref sig .tc := ⟨.hbm, 198, rfl⟩
abbrev main_cst_28 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_29 : Ref sig .tc := ⟨.hbm, 203, rfl⟩
abbrev main_v155 : Ref sig .tc := ⟨.hbm, 204, rfl⟩
abbrev main_v156 : Ref sig .tc := ⟨.hbm, 205, rfl⟩
abbrev main_cst_30 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_cst_31 : Ref sig .tc := ⟨.hbm, 220, rfl⟩
abbrev main_v170 : Ref sig .tc := ⟨.hbm, 221, rfl⟩
abbrev main_v171 : Ref sig .tc := ⟨.hbm, 222, rfl⟩
abbrev main_cst_32 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_cst_33 : Ref sig .tc := ⟨.hbm, 227, rfl⟩
abbrev main_v175 : Ref sig .tc := ⟨.hbm, 228, rfl⟩
abbrev main_v176 : Ref sig .tc := ⟨.hbm, 229, rfl⟩
abbrev main_cst_34 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_cst_35 : Ref sig .tc := ⟨.hbm, 244, rfl⟩
abbrev main_v190 : Ref sig .tc := ⟨.hbm, 245, rfl⟩
abbrev main_v191 : Ref sig .tc := ⟨.hbm, 246, rfl⟩
abbrev main_cst_36 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_cst_37 : Ref sig .tc := ⟨.hbm, 251, rfl⟩
abbrev main_v195 : Ref sig .tc := ⟨.hbm, 252, rfl⟩
abbrev main_v196 : Ref sig .tc := ⟨.hbm, 253, rfl⟩
abbrev main_cst_38 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩

abbrev nD : Nat := 1
abbrev τ : Topo := Topo.v7x

variable {F : FTy → Type} [FloatOps F]
-- ==== Proof.Body.lean ====
/-
  What the second kernel call computes, named: ranks, near ranks, the sums over the eight nearest ranks, the edge
  features of one batch and its stored output.  The two stores of the printed body are these functions.
-/
module

public import proofs.«01_k».proof.Proof.Gen.KernelIdeal.Frame

@[expose] public section

set_option maxRecDepth 16384

noncomputable section

namespace Cert.KernelIdeal.Body

open Idealize.ShloMosaic Idealize.SL.Sem Cert.KernelIdeal.Gen

variable {F : FTy → Type} [FloatOps F]

/-- Twenty rows of a square of distances. -/
theorem slices_square (n : Fin 15) : S300x300.Slices ![20 * n.val, 0] S20x300 := by
  refine ⟨rfl, fun a => ?_⟩
  have hn := n.isLt
  fin_cases a
  · change 20 * n.val + 20 ≤ 300; omega
  · change 0 + 300 ≤ 300; omega

/-- Twenty rows of the features. -/
theorem slices_rows (n : Fin 15) : S300x16.Slices ![20 * n.val, 0] S20x16 := by
  refine ⟨rfl, fun a => ?_⟩
  have hn := n.isLt
  fin_cases a
  · change 20 * n.val + 20 ≤ 300; omega
  · change 0 + 16 ≤ 16; omega

/-- The rank of every position in twenty rows of the distances: how many of the row are greater. -/
def rank (n : Fin 15) (d2 : FVec F S300x300 .f32) : FVec F S20x300 .f32 :=
  let v0 : FVec F S20x300 .f32 := extractStridedSlice S20x300 ![20 * n.val, 0] d2 (slices_square n)
  let v1 : FVec F S20x300x1 .f32 := shapeCast S20x300x1 v0 shapeCasts_S20x300_S20x300x1
  let v2 : FVec F S20x1x300 .f32 := shapeCast S20x1x300 v0 shapeCasts_S20x300_S20x1x300
  let v3 : FVec F S20x300x300 .f32 := broadcastTo S20x300x300 v1 broadcasts_S20x300x1_S20x300x300
  let v4 : FVec F S20x300x300 .f32 := broadcastTo S20x300x300 v2 broadcasts_S20x1x300_S20x300x300
  let v5 : IVec S20x300x300 1 := cmpf .ogt v3 v4
  let v6 : IVec S20x300x300 32 := extui 32 v5 natLt_1_32
  let v7 : FVec F S20x300x300 .f32 := sitofp .f32 v6
  multiReduction .add [1] S20x300 v7 0x00000000#32 reduces_S20x300x300_S20x300 (.inl rfl) rfl

/-- The wanted rank nearest a rank. -/
def near (rk : FVec F S20x300 .f32) : FVec F S20x300 .f32 :=
  let v0 : FVec F S20x300 .f32 := subf rk (broadcast S20x300 (Scalar.ofBits .f32 0x41960000#32))
  let v1 : FVec F S20x300 .f32 := mulf v0 (broadcast S20x300 (Scalar.ofBits .f32 0x3CDA740E#32))
  let v2 : FVec F S20x300 .f32 := roundeven v1
  let v3 : FVec F S20x300 .f32 := maximumf (broadcast S20x300 (Scalar.ofBits .f32 0x00000000#32)) v2
  let v4 : FVec F S20x300 .f32 := minimumf (broadcast S20x300 (Scalar.ofBits .f32 0x40E00000#32)) v3
  let v5 : FVec F S20x300 .f32 := mulf (broadcast S20x300 (Scalar.ofBits .f32 0x42160000#32)) v4
  let v6 : FVec F S20x300 .f32 := addf (broadcast S20x300 (Scalar.ofBits .f32 0x41960000#32)) v5
  floor v6

/-- The features summed over the positions whose rank is a wanted one. -/
def chunk (e : FVec F S300x16 .f32) (rk : FVec F S20x300 .f32) : FVec F S20x16 .f32 :=
  let v1 : IVec S20x300 1 := cmpf .oeq rk (near rk)
  let v2 : IVec S20x300 32 := extui 32 v1 natLt_1_32
  let v3 : FVec F S20x300 .f32 := sitofp .f32 v2
  matmul dot_S20x300_S300x16_S20x16_1_0_0_1_n_n (some .fp32) v3 e (constant S20x16 .f32 0x00000000#32)

/-- The sums of all 300 rows. -/
def nearSum (e : FVec F S300x16 .f32) (d2 : FVec F S300x300 .f32) : FVec F S300x16 .f32 :=
  concatenate S300x16 0 (List.ofFn fun n : Fin 15 => ⟨S20x16, chunk e (rank n d2)⟩)
    concatenates_S20x16_S20x16_S20x16_S20x16_S20x16_S20x16_S20x16_S20x16_S20x16_S20x16_S20x16_S20x16_S20x16_S20x16_S20x16_S300x16_d0

/-- The averaged differences through the linear layer. -/
def edge (e : FVec F S300x16 .f32) (sums : FVec F S300x16 .f32) (lw : FVec F S16x16 .f32) (lb : FVec F S1x16 .f32) :
    FVec F S300x16 .f32 :=
  let v0 : FVec F S300x16 .f32 := subf (mulf sums (broadcast S300x16 (Scalar.ofBits .f32 0x3E000000#32))) e
  let v1 : FVec F S300x16 .bf16 := truncf .bf16 v0 bitsLt_bf16_f32
  let v2 : FVec F S16x16 .f32 := transpose S16x16 [1, 0] lw transposes_S16x16_p1_0_S16x16
  let v3 : FVec F S16x16 .bf16 := truncf .bf16 v2 bitsLt_bf16_f32
  let v4 : FVec F S300x16 .f32 :=
    matmul dot_S300x16_S16x16_S300x16_1_0_0_1_n_n none v1 v3 (constant S300x16 .f32 0x00000000#32)
  addf v4 (broadcastTo S300x16 (shapeCast S1x16 lb shapeCasts_S1x16_S1x16) broadcasts_S1x16_S300x16)

/-- One image row, upsampled along the width. -/
def upRow (ed : FVec F S300x16 .f32) (uw : FVec F S80x20 .f32) (n : Fin 15) : FVec F S16x80 .f32 :=
  let v0 : FVec F S20x16 .f32 := extractStridedSlice S20x16 ![20 * n.val, 0] ed (slices_rows n)
  let v1 : FVec F S16x20 .f32 := transpose S16x20 [1, 0] v0 transposes_S20x16_p1_0_S16x20
  let v2 : FVec F S20x80 .f32 := transpose S20x80 [1, 0] uw transposes_S80x20_p1_0_S20x80
  matmul dot_S16x20_S20x80_S16x80_1_0_0_1_n_n (some .fp32) v1 v2 (constant S16x80 .f32 0x00000000#32)

/-- All image rows, upsampled along the width. -/
def upWide (ed : FVec F S300x16 .f32) (uw : FVec F S80x20 .f32) : FVec F S240x80 .f32 :=
  concatenate S240x80 0 (List.ofFn fun n : Fin 15 => ⟨S16x80, upRow ed uw n⟩)
    concatenates_S16x80_S16x80_S16x80_S16x80_S16x80_S16x80_S16x80_S16x80_S16x80_S16x80_S16x80_S16x80_S16x80_S16x80_S16x80_S240x80_d0

/-- The stored output of one batch. -/
def out (wide : FVec F S240x80 .f32) (k3 : FVec F S960x240 .f32) (pe : FVec F S960x80 .f32) : FVec F S1x960x80 .f32 :=
  let v0 : FVec F S960x80 .f32 :=
    matmul dot_S960x240_S240x80_S960x80_1_0_0_1_n_n (some .fp32)
      (shapeCast S960x240 k3 shapeCasts_S960x240_S960x240) wide (constant S960x80 .f32 0x00000000#32)
  shapeCast S1x960x80 (addf v0 pe) shapeCasts_S960x80_S1x960x80

section
variable (x0 : Vec F S600x16 .f32) (x1 x2 x3 : Vec F S1x16 .f32) (x4 : Vec F S16x16 .f32) (x5 x6 : Vec F S1x16 .f32)
  (x7 : Vec F S16x16 .f32) (x8 : Vec F S1x16 .f32) (x9 : Vec F S80x20 .f32) (x10 : Vec F S960x240 .f32)
  (x11 : Vec F S960x80 .f32)

/-- The first batch's edge features. -/
theorem edge_first :
    k1_pay140 x0 x1 x2 x3 x4 x5 x6 x7 x8 x9 x10 x11
      = edge (k1_pay122 x0 x1 x2 x3 x4 x5 x6 x7 x8 x9 x10 x11)
          (nearSum (k1_pay122 x0 x1 x2 x3 x4 x5 x6 x7 x8 x9 x10 x11) (k1_pay123 x0 x1 x2 x3 x4 x5 x6 x7 x8 x9 x10 x11))
          (View.ld x7 r1_2) (View.ld x8 r1_1) := rfl

/-- The second batch's edge features. -/
theorem edge_second :
    k1_pay145 x0 x1 x2 x3 x4 x5 x6 x7 x8 x9 x10 x11
      = edge (k1_pay141 x0 x1 x2 x3 x4 x5 x6 x7 x8 x9 x10 x11)
          (nearSum (k1_pay141 x0 x1 x2 x3 x4 x5 x6 x7 x8 x9 x10 x11) (k1_pay142 x0 x1 x2 x3 x4 x5 x6 x7 x8 x9 x10 x11))
          (View.ld x7 r1_2) (View.ld x8 r1_1) := rfl

/-- The two stores of the call. -/
theorem stores :
    out1_12 x0 x1 x2 x3 x4 x5 x6 x7 x8 x9 x10 x11
      = View.canon [
          ⟨r1_7, out (upWide (k1_pay145 x0 x1 x2 x3 x4 x5 x6 x7 x8 x9 x10 x11) (View.ld x9 r1_3))
            (View.ld x10 r1_4) (View.ld x11 r1_5)⟩,
          ⟨r1_6, out (upWide (k1_pay140 x0 x1 x2 x3 x4 x5 x6 x7 x8 x9 x10 x11) (View.ld x9 r1_3))
            (View.ld x10 r1_4) (View.ld x11 r1_5)⟩] := rfl
end

end Cert.KernelIdeal.Body

end
-- ==== Proof.Arrays.lean ====
/-
  The arrays the two kernel calls leave, in terms of the arrays they read.
-/
module

public import proofs.«01_k».proof.Proof.Body
public import Idealize.ShloMosaic.Lib.Pipeline.ValueKit

@[expose] public section

set_option maxRecDepth 16384

noncomputable section

namespace Cert.KernelIdeal.Result

open Idealize.ShloMosaic Idealize.ShloMosaic.TcCoe Idealize.SL.Sem Cert.KernelIdeal.Gen
open Idealize.ShloMosaic.Pipeline (Dat Cfg Window)

variable {F : FTy → Type} [FloatOps F]
variable (V : (c : Dev nD) → (b : Ref sig .tc) → Buf (Elt F) ((c : Thread nD τ).loc b)) (c : Dev nD)

/-- The rows of the image that point `t` of the convolution reads. -/
def imageBlock (x : FVec F S2x64x240x320 .f32) (g : Fin 10) : FVec F S1x64x48x320 .f32 :=
  fun y => x (ix4 ⟨g.val / 5, by omega⟩ (y 1) ⟨48 * (g.val % 5) + (y 2).val, by have h := (y 2).isLt; change (y 2).val < 48 at h; omega⟩ (y 3))

/-- What the convolution leaves. -/
def convArray (x : FVec F S2x64x240x320 .f32) (w : FVec F S256x1024 .bf16) : FVec F S10x60x16 .f32 :=
  fun i => out0_2 (imageBlock x (i 0)) w (ix3 0 (i 1) (i 2))

theorem image_index : ∀ t : Fin grid0.N, win0_0.index t 0 = t.val / 5 ∧ win0_0.index t 1 = 0 ∧ win0_0.index t 2 = t.val % 5
    ∧ win0_0.index t 3 = 0 := by decide +kernel

theorem weight_index : ∀ t : Fin grid0.N, ∀ a, win0_1.index t a = 0 := by decide +kernel

theorem conv_index : ∀ t : Fin grid0.N, win0_2.index t 0 = t.val ∧ win0_2.index t 1 = 0 ∧ win0_2.index t 2 = 0 := by
  decide +kernel

theorem points : grid0.N = 10 := by decide +kernel

theorem image_block (t : Fin cfg0.N) : iblk0 V c 0 t = imageBlock (V c main_arg0) ⟨t.val, points ▸ t.isLt⟩ := by
  funext y
  unfold iblk0 imageBlock
  obtain ⟨h0, h1, h2, h3⟩ := image_index t
  refine congrArg (V c main_arg0) (funext fun a => Fin.ext ?_)
  fin_cases a
  · have hy : (y 0).val < 1 := (y 0).isLt
    blk_simp [h0]
    change _ = t.val / 5
    omega
  · blk_simp [h1]
    change (y 1).val = (y 1).val
    rfl
  · blk_simp [h2]
    change t.val % 5 * 48 + (y 2).val = 48 * (t.val % 5) + (y 2).val
    omega
  · blk_simp [h3]
    change (y 3).val = (y 3).val
    rfl

theorem weight_block (t : Fin cfg0.N) : iblk0 V c 1 t = V c main_v2 := by
  funext y
  unfold iblk0
  refine congrArg (V c main_v2) (funext fun a => Fin.ext ?_)
  exact Window.rect_emb_val_of_index_zero win0_1 t a (weight_index t a) y

/-- The convolution's result array. -/
theorem conv_array : (dat0 V c).arrAt 2 cfg0.N = convArray (V c main_arg0) (V c main_v2) := by
  refine (dat0 V c).arrAt_eq_of_covers 2 _ (by decide +kernel) fun t hf y => ?_
  blk_simp
  rw [after0_2, image_block, weight_block]
  unfold convArray
  obtain ⟨h0, h1, h2⟩ := conv_index t
  have hy : (y 0).val < 1 := (y 0).isLt
  have e0 : (win0_2.blk t).view.emb y 0 = (⟨t.val, points ▸ t.isLt⟩ : Fin 10) := by
    refine Fin.ext ?_
    blk_simp [h0]
  have e1 : ((win0_2.blk t).view.emb y 1 : Fin 60) = y 1 := by
    refine Fin.ext ?_
    blk_simp [h1]
  have e2 : ((win0_2.blk t).view.emb y 2 : Fin 16) = y 2 := by
    refine Fin.ext ?_
    blk_simp [h2]
  rw [e0]
  refine congrArg (out0_2 _ _) (funext fun a => ?_)
  fin_cases a
  · exact Fin.ext (by change (y 0).val = 0; omega)
  · exact e1.symm
  · exact e2.symm

theorem whole_0 (t : Fin cfg1.N) : iblk1 V c 0 t = V c main_v4 := by
  funext y
  unfold iblk1
  refine congrArg (V c main_v4) (funext fun a => Fin.ext ?_)
  exact Window.rect_emb_val_of_index_zero win1_0 t a
    ((by decide +kernel : ∀ t : Fin grid1.N, ∀ a, win1_0.index t a = 0) t a) y

theorem whole_1 (t : Fin cfg1.N) : iblk1 V c 1 t = V c main_v5 := by
  funext y
  unfold iblk1
  refine congrArg (V c main_v5) (funext fun a => Fin.ext ?_)
  exact Window.rect_emb_val_of_index_zero win1_1 t a
    ((by decide +kernel : ∀ t : Fin grid1.N, ∀ a, win1_1.index t a = 0) t a) y

theorem whole_2 (t : Fin cfg1.N) : iblk1 V c 2 t = V c main_v6 := by
  funext y
  unfold iblk1
  refine congrArg (V c main_v6) (funext fun a => Fin.ext ?_)
  exact Window.rect_emb_val_of_index_zero win1_2 t a
    ((by decide +kernel : ∀ t : Fin grid1.N, ∀ a, win1_2.index t a = 0) t a) y

theorem whole_3 (t : Fin cfg1.N) : iblk1 V c 3 t = V c main_v7 := by
  funext y
  unfold iblk1
  refine congrArg (V c main_v7) (funext fun a => Fin.ext ?_)
  exact Window.rect_emb_val_of_index_zero win1_3 t a
    ((by decide +kernel : ∀ t : Fin grid1.N, ∀ a, win1_3.index t a = 0) t a) y

theorem whole_4 (t : Fin cfg1.N) : iblk1 V c 4 t = V c main_v8 := by
  funext y
  unfold iblk1
  refine congrArg (V c main_v8) (funext fun a => Fin.ext ?_)
  exact Window.rect_emb_val_of_index_zero win1_4 t a
    ((by decide +kernel : ∀ t : Fin grid1.N, ∀ a, win1_4.index t a = 0) t a) y

theorem whole_5 (t : Fin cfg1.N) : iblk1 V c 5 t = V c main_v9 := by
  funext y
  unfold iblk1
  refine congrArg (V c main_v9) (funext fun a => Fin.ext ?_)
  exact Window.rect_emb_val_of_index_zero win1_5 t a
    ((by decide +kernel : ∀ t : Fin grid1.N, ∀ a, win1_5.index t a = 0) t a) y

theorem whole_6 (t : Fin cfg1.N) : iblk1 V c 6 t = V c main_v10 := by
  funext y
  unfold iblk1
  refine congrArg (V c main_v10) (funext fun a => Fin.ext ?_)
  exact Window.rect_emb_val_of_index_zero win1_6 t a
    ((by decide +kernel : ∀ t : Fin grid1.N, ∀ a, win1_6.index t a = 0) t a) y

theorem whole_7 (t : Fin cfg1.N) : iblk1 V c 7 t = V c main_arg8 := by
  funext y
  unfold iblk1
  refine congrArg (V c main_arg8) (funext fun a => Fin.ext ?_)
  exact Window.rect_emb_val_of_index_zero win1_7 t a
    ((by decide +kernel : ∀ t : Fin grid1.N, ∀ a, win1_7.index t a = 0) t a) y

theorem whole_8 (t : Fin cfg1.N) : iblk1 V c 8 t = V c main_v11 := by
  funext y
  unfold iblk1
  refine congrArg (V c main_v11) (funext fun a => Fin.ext ?_)
  exact Window.rect_emb_val_of_index_zero win1_8 t a
    ((by decide +kernel : ∀ t : Fin grid1.N, ∀ a, win1_8.index t a = 0) t a) y

theorem whole_9 (t : Fin cfg1.N) : iblk1 V c 9 t = V c main_cst := by
  funext y
  unfold iblk1
  refine congrArg (V c main_cst) (funext fun a => Fin.ext ?_)
  exact Window.rect_emb_val_of_index_zero win1_9 t a
    ((by decide +kernel : ∀ t : Fin grid1.N, ∀ a, win1_9.index t a = 0) t a) y

theorem whole_10 (t : Fin cfg1.N) : iblk1 V c 10 t = V c main_v23 := by
  funext y
  unfold iblk1
  refine congrArg (V c main_v23) (funext fun a => Fin.ext ?_)
  exact Window.rect_emb_val_of_index_zero win1_10 t a
    ((by decide +kernel : ∀ t : Fin grid1.N, ∀ a, win1_10.index t a = 0) t a) y

theorem whole_11 (t : Fin cfg1.N) : iblk1 V c 11 t = V c main_cst_1 := by
  funext y
  unfold iblk1
  refine congrArg (V c main_cst_1) (funext fun a => Fin.ext ?_)
  exact Window.rect_emb_val_of_index_zero win1_11 t a
    ((by decide +kernel : ∀ t : Fin grid1.N, ∀ a, win1_11.index t a = 0) t a) y

/-- The second call's result array. -/
theorem main_array : (dat1 V c).arrAt 12 cfg1.N =
    out1_12 (V c main_v4) (V c main_v5) (V c main_v6) (V c main_v7) (V c main_v8) (V c main_v9) (V c main_v10)
      (V c main_arg8) (V c main_v11) (V c main_cst) (V c main_v23) (V c main_cst_1) := by
  refine (dat1 V c).arrAt_eq_of_covers 12 _ (by decide +kernel) fun t hf y => ?_
  blk_simp
  rw [after1_12, whole_0, whole_1, whole_2, whole_3, whole_4, whole_5, whole_6, whole_7, whole_8, whole_9, whole_10,
    whole_11]
  refine congrArg _ (funext fun a => Fin.ext ?_)
  exact (Window.rect_emb_val_of_index_zero win1_12 t a
    ((by decide +kernel : ∀ t : Fin grid1.N, ∀ a, win1_12.index t a = 0) t a) y).symm

end Cert.KernelIdeal.Result

end
-- ==== Proof.Run.lean ====
/-
  The program's run, its result named: what the last boundary's contents hold.
-/
module

public import proofs.«01_k».proof.Proof.Gen.KernelIdeal.Frame

@[expose] public section

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

set_option backward.isDefEq.respectTransparency.types false in
/-- From any memory every run of the program ends with its result at the last boundary's contents, the arguments as
    launched. -/
theorem run : θ_run defs (onTc (τ := τ) (main (F := F))) ⟨m, fun _ => 0, ρ⟩ (fun r => ∀ c : Dev nD,
      r.2.mem ((c.tc : Thread nD τ).loc main_v25) = W5 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v25 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Result

end
-- ==== Proof.Result.lean ====
/-
  The program's result written as a function of its ten arguments.
-/
module

public import proofs.«01_k».proof.Proof.Arrays
public import proofs.«01_k».proof.Proof.Run

@[expose] public section

set_option maxRecDepth 16384

noncomputable section

namespace Cert.KernelIdeal.Result

open Idealize.ShloMosaic Idealize.ShloMosaic.TcCoe Idealize.ShloMosaic.Tactic
open Cert.KernelIdeal.Gen

variable {F : FTy → Type} [FloatOps F]

/-- The filters as the convolution call reads them. -/
def filters (w : S16x64x16x16.Idx → F .f32) : S256x1024.Idx → F .bf16 :=
  truncf .bf16 (shapeCast S256x1024 (transpose S16x16x64x16 [0, 3, 1, 2] w transposes_S16x64x16x16_S16x16x64x16_0_3_1_2)
    shapeCasts_S16x16x64x16_S256x1024) bitsLt_bf16_f32

/-- The convolution's rows as the second call reads them. -/
def rows (x : S2x64x240x320.Idx → F .f32) (w : S16x64x16x16.Idx → F .f32) : S600x16.Idx → F .f32 :=
  shapeCast S600x16 (convArray x (filters w)) shapeCasts_S10x60x16_S600x16

/-- A vector of sixteen numbers as one row. -/
def row (a : S16.Idx → F .f32) : S1x16.Idx → F .f32 := shapeCast S1x16 a shapeCasts_S16_S1x16

/-- The weights of 15 lines in 60, set out for 16 channels apart. -/
def tallOf (u : S60x15.Idx → F .f32) : S960x240.Idx → F .f32 :=
  shapeCast S960x240 (select (broadcastInDim S16x60x15x16 ![0, 1, 2, 3] bcast_S16x1x1x16_S16x60x15x16_0_1_2_3
      (broadcastInDim S16x1x1x16 ![0, 3] bcast_S16x16_S16x1x1x16_0_3
        (cmpi .eq (addi (iotaInDim S16x16 32 0) (broadcastInDim S16x16 ![] bcast_S_S16x16 (constantI S_ 32 0#32)))
          (iotaInDim S16x16 32 1))))
    (broadcastInDim S16x60x15x16 ![0, 1, 2, 3] bcast_S1x60x15x1_S16x60x15x16_0_1_2_3
      (broadcastInDim S1x60x15x1 ![1, 2] bcast_S60x15_S1x60x15x1_1_2 u))
    (broadcastInDim S16x60x15x16 ![] bcast_S_S16x60x15x16 (constant S_ .f32 0x00000000#32)))
    shapeCasts_S16x60x15x16_S960x240

/-- The 960 by 240 table as the second call reads it. -/
def tallTable : S960x240.Idx → F .f32 := tallOf fun i => FloatOps.ofBits .f32 (lit1 (S60x15.rowMajor i))

/-- The second call's result from the arguments. -/
def planes (a0 : S2x64x240x320.Idx → F .f32) (a1 : S16x64x16x16.Idx → F .f32) (a2 a3 a4 : S16.Idx → F .f32)
    (a5 : S16x16x1x1.Idx → F .f32) (a6 a7 : S16.Idx → F .f32) (a8 : S16x16.Idx → F .f32) (a9 : S16.Idx → F .f32) :
    S2x960x80.Idx → F .f32 :=
  out1_12 (rows a0 a1) (row a2) (row a3) (row a4) (shapeCast S16x16 a5 shapeCasts_S16x16x1x1_S16x16) (row a6) (row a7)
    a8 (row a9) (fun i => FloatOps.ofBits .f32 (lit0 (S80x20.rowMajor i)))
    tallTable (fun i => FloatOps.ofBits .f32 (lit2 (S960x80.rowMajor i)))

variable (m : (ℓ : Loc nD τ sig) → Buf (Elt F) ℓ) (ρ : Dev nD → PrngReg) (c : Dev nD)

theorem args_two (a : Ref sig .tc) (h : a ∈ argRefs) : W2 m ρ c (Proc.devRef .tc a) = m ((c.tc : Thread nD τ).loc a) :=
  W2_args m ρ c a h

theorem conv_entry : W2 m ρ c (Proc.devRef .tc main_v3) =
    convArray (m ((c.tc : Thread nD τ).loc main_arg0)) (filters (m ((c.tc : Thread nD τ).loc main_arg1))) :=
  (W2_arr m ρ c 2).trans (conv_array (V1 m ρ) c)

theorem entry_rows : V3 m ρ c main_v4 =
    rows (m ((c.tc : Thread nD τ).loc main_arg0)) (m ((c.tc : Thread nD τ).loc main_arg1)) :=
  congrArg (fun x => shapeCast S600x16 x shapeCasts_S10x60x16_S600x16) (conv_entry m ρ c)

theorem entry_5 : V3 m ρ c main_v5 = row (m ((c.tc : Thread nD τ).loc main_arg2)) :=
  congrArg row (W2_args m ρ c main_arg2 (by decide))
theorem entry_6 : V3 m ρ c main_v6 = row (m ((c.tc : Thread nD τ).loc main_arg3)) :=
  congrArg row (W2_args m ρ c main_arg3 (by decide))
theorem entry_7 : V3 m ρ c main_v7 = row (m ((c.tc : Thread nD τ).loc main_arg4)) :=
  congrArg row (W2_args m ρ c main_arg4 (by decide))
theorem entry_8 : V3 m ρ c main_v8 =
    shapeCast S16x16 (m ((c.tc : Thread nD τ).loc main_arg5)) shapeCasts_S16x16x1x1_S16x16 :=
  congrArg (fun x => shapeCast S16x16 x shapeCasts_S16x16x1x1_S16x16) (W2_args m ρ c main_arg5 (by decide))
theorem entry_9 : V3 m ρ c main_v9 = row (m ((c.tc : Thread nD τ).loc main_arg6)) :=
  congrArg row (W2_args m ρ c main_arg6 (by decide))
theorem entry_10 : V3 m ρ c main_v10 = row (m ((c.tc : Thread nD τ).loc main_arg7)) :=
  congrArg row (W2_args m ρ c main_arg7 (by decide))
theorem entry_11 : V3 m ρ c main_v11 = row (m ((c.tc : Thread nD τ).loc main_arg9)) :=
  congrArg row (W2_args m ρ c main_arg9 (by decide))
theorem entry_arg : V3 m ρ c main_arg8 = m ((c.tc : Thread nD τ).loc main_arg8) :=
  W3_args m ρ c main_arg8 (by decide)
theorem entry_lit0 : V3 m ρ c main_cst = fun i => FloatOps.ofBits .f32 (lit0 (S80x20.rowMajor i)) :=
  (W3_of m ρ c main_cst (by decide)).trans ((W2_of m ρ c main_cst (by decide)).trans rfl)
theorem entry_tall : V3 m ρ c main_v23 = tallTable :=
  congrArg tallOf ((W2_of m ρ c main_cst_0 (by decide)).trans rfl)
theorem entry_lit2 : V3 m ρ c main_cst_1 = fun i => FloatOps.ofBits .f32 (lit2 (S960x80.rowMajor i)) :=
  (W3_of m ρ c main_cst_1 (by decide)).trans ((W2_of m ρ c main_cst_1 (by decide)).trans rfl)

/-- What the result holds at the end. -/
theorem result : W5 m ρ c (Proc.devRef .tc main_v25) =
    shapeCast S2x16x60x80 (planes (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9)))
      shapeCasts_S2x960x80_S2x16x60x80 := by
  refine congrArg (fun x => shapeCast S2x16x60x80 x shapeCasts_S2x960x80_S2x16x60x80) ?_
  refine ((W4_arr m ρ c 12).trans (main_array (V3 m ρ) c)).trans ?_
  rw [entry_rows, entry_5, entry_6, entry_7, entry_8, entry_9, entry_10, entry_11, entry_arg, entry_lit0, entry_tall,
    entry_lit2]
  rfl

end Cert.KernelIdeal.Result
-- ==== Proof.Model.lean ====
/-
  The mathematics both programs compute, up to the attended features, over the extended reals.
-/
module

public import Idealize.ShloMosaic.Lib.Pointwise

@[expose] public section

set_option maxRecDepth 16384

noncomputable section

namespace Cert.Model

open Idealize.ShloMosaic

/-- The number of the patch in row `i` and column `j`. -/
def cell (i : Fin 15) (j : Fin 20) : Fin 300 := ⟨20 * i.val + j.val, by omega⟩

theorem cell_split (r : Fin 300) : cell ⟨r.val / 20, by omega⟩ ⟨r.val % 20, by omega⟩ = r :=
  Fin.ext (by change 20 * (r.val / 20) + r.val % 20 = r.val; omega)

/-- A sum over a product of two ranges, cut into the sum over one of the sums over the other. -/
theorem sum_blocks {M : Type} [AddCommMonoid M] (m n k : ℕ) (h : k = m * n) (f : Fin k → M)
    (p : Fin m → Fin n → Fin k) (hp : ∀ a b, (p a b).val = n * a.val + b.val) :
    ∑ r, f r = ∑ a, ∑ b, f (p a b) := by
  subst h
  rw [← Fintype.sum_prod_type', ← Equiv.sum_comp finProdFinEquiv]
  refine Finset.sum_congr rfl fun x _ => congrArg f (Fin.ext ?_)
  rw [hp]
  simp [finProdFinEquiv, Nat.add_comm]

/-- A sum over the patches, row by row. -/
theorem sum_cells (f : Fin 300 → EReal) : ∑ i, ∑ j, f (cell i j) = ∑ r, f r :=
  (sum_blocks 15 20 300 rfl f cell fun _ _ => rfl).symm

/-- The patch convolution: channel `o` of patch `r` of image `b`. -/
def conv (x : (⟨4, ![2, 64, 240, 320]⟩ : Shape).Idx → EReal) (w : (⟨4, ![16, 64, 16, 16]⟩ : Shape).Idx → EReal)
    (b : Fin 2) (r : Fin 300) (o : Fin 16) : EReal :=
  ∑ c : Fin 64, ∑ kh : Fin 16, ∑ kw : Fin 16,
    w (ix4 o c kh kw) * x (ix4 b c ⟨16 * (r.val / 20) + kh.val, by omega⟩ ⟨16 * (r.val % 20) + kw.val, by omega⟩)

/-- The squared distance of two patches, written out with inner products. -/
def gram (e : Fin 300 → Fin 16 → EReal) (r l : Fin 300) : EReal :=
  (∑ c, e r c * e r c) + (∑ c, e l c * e l c) - (∑ c, e r c * e l c) - ∑ c, e r c * e l c

section Features

variable (y : Fin 2 → Fin 300 → Fin 16 → EReal) (g s : Fin 16 → EReal) (w : Fin 16 → Fin 16 → EReal) (g' s' : Fin 16 → EReal)

/-- The mean of a channel over both images and all patches. -/
def mean (c : Fin 16) : EReal := Ideal.div (∑ b, ∑ r, y b r c) (Ideal.ofBits .f32 0x44160000#32)

/-- The variance of a channel over both images and all patches. -/
def variance (c : Fin 16) : EReal :=
  Ideal.div (∑ b, ∑ r, (y b r c - mean y c) * (y b r c - mean y c)) (Ideal.ofBits .f32 0x44160000#32)

/-- The features: normalised, scaled, shifted, and cut off below at zero. -/
def feature (b : Fin 2) (r : Fin 300) (c : Fin 16) : EReal :=
  max (Ideal.div (y b r c - mean y c) (Ideal.sqrt (variance y c + Ideal.ofBits .f32 0x3727C5AC#32)) * g c + s c) 0

/-- The mean feature of an image. -/
def pool (b : Fin 2) (c : Fin 16) : EReal := Ideal.div (∑ r, feature y g s b r c) (Ideal.ofBits .f32 0x43960000#32)

/-- The attention's product. -/
def attend (b : Fin 2) (o : Fin 16) : EReal := ∑ c, w o c * pool y g s b c

/-- The mean of the attention over the two images. -/
def attendMean (o : Fin 16) : EReal := Ideal.div (∑ b, attend y g s w b o) (Ideal.ofBits .f32 0x40000000#32)

/-- The variance of the attention over the two images. -/
def attendVariance (o : Fin 16) : EReal :=
  Ideal.div (∑ b, (attend y g s w b o - attendMean y g s w o) * (attend y g s w b o - attendMean y g s w o))
    (Ideal.ofBits .f32 0x40000000#32)

/-- The attention's weight for a channel. -/
def gate (b : Fin 2) (o : Fin 16) : EReal :=
  Ideal.div 1 (1 + Ideal.exp (-(Ideal.div (attend y g s w b o - attendMean y g s w o)
    (Ideal.sqrt (attendVariance y g s w o + Ideal.ofBits .f32 0x3727C5AC#32)) * g' o + s' o)))

/-- The attended features. -/
def attended (b : Fin 2) (r : Fin 300) (c : Fin 16) : EReal := feature y g s b r c * gate y g s w g' s' b c

end Features

end Cert.Model
-- ==== Proof.Words.lean ====
/-
  The numbers that the programs' float words stand for.
-/
module

public import Idealize.ShloMosaic.Lib.Pointwise

@[expose] public section

set_option maxRecDepth 16384

noncomputable section

namespace Cert.Words

open Idealize.ShloMosaic

theorem six_hundred : Ideal.ofBits .f32 0x44160000#32 = ((600 : ℝ) : EReal) := by
  simp [Ideal.ofBits, Ideal.ieee, -EReal.coe_mul]; norm_num
theorem three_hundred : Ideal.ofBits .f32 0x43960000#32 = ((300 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem half : Ideal.ofBits .f32 0x3F000000#32 = (((1 : ℝ) / 2 : ℝ) : EReal) := by
  simp [Ideal.ofBits, Ideal.ieee, -EReal.coe_mul]; norm_num
theorem eight : Ideal.ofBits .f32 0x41000000#32 = ((8 : ℝ) : EReal) := by
  simp [Ideal.ofBits, Ideal.ieee, -EReal.coe_mul]; norm_num
theorem eighth : Ideal.ofBits .f32 0x3E000000#32 = (((1 : ℝ) / 8 : ℝ) : EReal) := by
  simp [Ideal.ofBits, Ideal.ieee, -EReal.coe_mul]; norm_num
theorem seven : Ideal.ofBits .f32 0x40E00000#32 = ((7 : ℝ) : EReal) := by
  simp [Ideal.ofBits, Ideal.ieee, -EReal.coe_mul]; norm_num
theorem first_rank : Ideal.ofBits .f32 0x41960000#32 = (((75 : ℝ) / 4 : ℝ) : EReal) := by
  simp [Ideal.ofBits, Ideal.ieee, -EReal.coe_mul]; norm_num
theorem rank_step : Ideal.ofBits .f32 0x42160000#32 = (((75 : ℝ) / 2 : ℝ) : EReal) := by
  simp [Ideal.ofBits, Ideal.ieee, -EReal.coe_mul]; norm_num
theorem per_step : Ideal.ofBits .f32 0x3CDA740E#32 = (((14316558 : ℝ) / 536870912 : ℝ) : EReal) := by
  simp [Ideal.ofBits, Ideal.ieee, -EReal.coe_mul]; norm_num
theorem tiny : Ideal.ofBits .f32 0x3727C5AC#32 = (((10995116 : ℝ) / 1099511627776 : ℝ) : EReal) := by
  simp [Ideal.ofBits, Ideal.ieee, -EReal.coe_mul]; norm_num

/-- Division by two is multiplication by one half. -/
theorem mul_half (x : EReal) : x * Ideal.ofBits .f32 0x3F000000#32 = Ideal.div x (Ideal.ofBits .f32 0x40000000#32) := by
  rw [half, two]
  unfold Ideal.div
  rw [if_neg (by exact_mod_cast (two_ne_zero : (2 : ℝ) ≠ 0)), ← EReal.coe_inv]
  norm_num

/-- Division of a real number by one that is not zero. -/
theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

end Cert.Words
-- ==== Proof.Feature.lean ====
/-
  What the second call computes up to the attended features.
-/
module

public import proofs.«01_k».proof.Proof.Body
public import proofs.«01_k».proof.Proof.Model
public import proofs.«01_k».proof.Proof.Words

@[expose] public section

set_option maxRecDepth 16384

noncomputable section

namespace Cert.KernelIdeal.Feature

open Idealize.ShloMosaic Idealize.SL.Sem Idealize.ShloMosaic.TcCoe Idealize.ShloMosaic.Tactic
open Cert.KernelIdeal.Gen Cert.Model

/-- The row of patch `r` of image `b`. -/
def line (b : Fin 2) (r : Fin 300) : Fin 600 := ⟨300 * b.val + r.val, by omega⟩

/-- A sum over the rows, image by image. -/
theorem sum_lines (f : Fin 600 → EReal) : ∑ k, f k = ∑ b, ∑ r, f (line b r) :=
  sum_blocks 2 300 600 rfl f line fun _ _ => rfl

section Parts
variable (v0 : S600x16.Idx → Ideal .f32) (v2 v24 v28 : S1x16.Idx → Ideal .f32)

/-- The convolution with its offset. -/
def start (b : Fin 2) (r : Fin 300) (c : Fin 16) : EReal :=
  (v0 (ix2 (line b r) c) : EReal) + v2 (ix2 (0 : Fin 1) c)

/-- A row of sixteen numbers. -/
def entry (v : S1x16.Idx → Ideal .f32) (c : Fin 16) : EReal := v (ix2 (0 : Fin 1) c)

theorem feature_row (b : Fin 2) (r : Fin 300) (c : Fin 16) :
    (k1_pay2 (F := Ideal) v0 v2 v24 v28 (ix2 (line b r) c) : EReal) = feature (start v0 v2) (entry v24) (entry v28) b r c := by
  pointwise [k1_pay2]
  simp only [sum_lines]
  rfl

theorem feature_zero (r : Fin 300) (c : Fin 16) :
    (k1_pay3 (F := Ideal) v0 v2 v24 v28 (ix2 r c) : EReal) = feature (start v0 v2) (entry v24) (entry v28) 0 r c := by
  rw [← feature_row]
  pointwise [k1_pay3]
  exact congrArg (k1_pay2 (F := Ideal) v0 v2 v24 v28) (congrArg (ix2 · c) (Fin.ext (Nat.zero_add _).symm))

theorem feature_one (r : Fin 300) (c : Fin 16) :
    (k1_pay4 (F := Ideal) v0 v2 v24 v28 (ix2 r c) : EReal) = feature (start v0 v2) (entry v24) (entry v28) 1 r c := by
  rw [← feature_row]
  pointwise [k1_pay4]
  rfl

theorem pool_zero (c : Fin 16) :
    (k1_pay5 (F := Ideal) v0 v2 v24 v28 (ix2 (0 : Fin 1) c) : EReal) = pool (start v0 v2) (entry v24) (entry v28) 0 c := by
  pointwise [k1_pay5]
  simp only [feature_zero]
  rfl

theorem pool_one (c : Fin 16) :
    Ideal.div (k1_pay6 (F := Ideal) v0 v2 v24 v28 (ix2 (0 : Fin 1) c)) (Ideal.ofBits .f32 0x43960000#32) =
      pool (start v0 v2) (entry v24) (entry v28) 1 c := by
  pointwise [k1_pay6]
  simp only [feature_one]
  rfl

variable (w : S16x16.Idx → Ideal .f32)

/-- The attention's matrix. -/
def matrix (o c : Fin 16) : EReal := w (ix2 o c)

theorem attend_zero (o : Fin 16) :
    (k1_pay7 (F := Ideal) (k1_pay5 (F := Ideal) v0 v2 v24 v28) w (ix2 (0 : Fin 1) o) : EReal) =
      attend (start v0 v2) (entry v24) (entry v28) (matrix w) 0 o := by
  pointwise [k1_pay7]
  simp only [pool_zero]
  exact Finset.sum_congr rfl fun c _ => mul_comm _ _

theorem attend_one (o : Fin 16) :
    (k1_pay8 (F := Ideal) (k1_pay6 (F := Ideal) v0 v2 v24 v28) (Ideal.ofBits .f32 0x43960000#32) w (ix2 (0 : Fin 1) o) : EReal) =
      attend (start v0 v2) (entry v24) (entry v28) (matrix w) 1 o := by
  pointwise [k1_pay8]
  simp only [pool_one]
  exact Finset.sum_congr rfl fun c _ => mul_comm _ _

theorem mean_attend (o : Fin 16) :
    (k1_pay9 (F := Ideal) (k1_pay5 (F := Ideal) v0 v2 v24 v28) (k1_pay6 (F := Ideal) v0 v2 v24 v28)
      (Ideal.ofBits .f32 0x43960000#32) w w (ix2 (0 : Fin 1) o) : EReal) =
      attendMean (start v0 v2) (entry v24) (entry v28) (matrix w) o := by
  pointwise [k1_pay9]
  rw [attend_zero, attend_one, Words.mul_half]
  unfold attendMean
  rw [Fin.sum_univ_two]

theorem variance_attend (o : Fin 16) :
    (k1_pay10 (F := Ideal) (k1_pay5 (F := Ideal) v0 v2 v24 v28) (k1_pay6 (F := Ideal) v0 v2 v24 v28)
      (Ideal.ofBits .f32 0x43960000#32) w w (ix2 (0 : Fin 1) o) : EReal) =
      attendVariance (start v0 v2) (entry v24) (entry v28) (matrix w) o := by
  pointwise [k1_pay10]
  rw [attend_zero, attend_one, mean_attend, Words.mul_half]
  unfold attendVariance
  rw [Fin.sum_univ_two]

variable (v71 v74 : S1x16.Idx → Ideal .f32)

theorem gate_zero (o : Fin 16) :
    (k1_pay11 (F := Ideal) (k1_pay5 (F := Ideal) v0 v2 v24 v28) (k1_pay6 (F := Ideal) v0 v2 v24 v28)
      (Ideal.ofBits .f32 0x43960000#32) w w v71 v74 (ix2 (0 : Fin 1) o) : EReal) =
      gate (start v0 v2) (entry v24) (entry v28) (matrix w) (entry v71) (entry v74) 0 o := by
  pointwise [k1_pay11]
  rw [attend_zero, mean_attend, variance_attend]
  rfl

theorem gate_one (o : Fin 16) :
    (k1_pay13 (F := Ideal) (k1_pay12 (F := Ideal) (k1_pay5 (F := Ideal) v0 v2 v24 v28) (k1_pay6 (F := Ideal) v0 v2 v24 v28)
      (Ideal.ofBits .f32 0x43960000#32) w w v71) v74 (ix2 (0 : Fin 1) o) : EReal) =
      gate (start v0 v2) (entry v24) (entry v28) (matrix w) (entry v71) (entry v74) 1 o := by
  pointwise [k1_pay13, k1_pay12]
  rw [attend_one, mean_attend, variance_attend]
  rfl

end Parts

section Whole
variable (x0 : Vec Ideal S600x16 .f32) (x1 x2 x3 : Vec Ideal S1x16 .f32) (x4 : Vec Ideal S16x16 .f32)
  (x5 x6 : Vec Ideal S1x16 .f32) (x7 : Vec Ideal S16x16 .f32) (x8 : Vec Ideal S1x16 .f32)
  (x9 : Vec Ideal S80x20 .f32) (x10 : Vec Ideal S960x240 .f32) (x11 : Vec Ideal S960x80 .f32)

theorem load_rows : View.ld x0 r1_0 = x0 := View.ld_unit_zero (by funext a; fin_cases a <;> rfl) _ _
theorem load_row (v : Vec Ideal S1x16 .f32) : View.ld v r1_1 = v := View.ld_unit_zero (by funext a; fin_cases a <;> rfl) _ _
theorem load_square (v : Vec Ideal S16x16 .f32) : View.ld v r1_2 = v := View.ld_unit_zero (by funext a; fin_cases a <;> rfl) _ _
theorem load_wide : View.ld x9 r1_3 = x9 := View.ld_unit_zero (by funext a; fin_cases a <;> rfl) _ _
theorem load_tall : View.ld x10 r1_4 = x10 := View.ld_unit_zero (by funext a; fin_cases a <;> rfl) _ _
theorem load_plane : View.ld x11 r1_5 = x11 := View.ld_unit_zero (by funext a; fin_cases a <;> rfl) _ _

/-- The first image's attended features. -/
theorem attended_zero (r : Fin 300) (c : Fin 16) :
    (k1_pay122 (F := Ideal) x0 x1 x2 x3 x4 x5 x6 x7 x8 x9 x10 x11 (ix2 r c) : EReal) =
      attended (start x0 x1) (entry x2) (entry x3) (matrix x4) (entry x5) (entry x6) 0 r c := by
  unfold k1_pay122 k1_pay116 k1_pay120 k1_pay118 k1_pay119
  rw [load_rows, load_row, load_row, load_row, load_row, load_row, load_square]
  pointwise [k1_pay14]
  rw [feature_zero, gate_zero]
  rfl

/-- The second image's attended features. -/
theorem attended_one (r : Fin 300) (c : Fin 16) :
    (k1_pay141 (F := Ideal) x0 x1 x2 x3 x4 x5 x6 x7 x8 x9 x10 x11 (ix2 r c) : EReal) =
      attended (start x0 x1) (entry x2) (entry x3) (matrix x4) (entry x5) (entry x6) 1 r c := by
  unfold k1_pay141 k1_pay117 k1_pay121 k1_pay118 k1_pay119
  rw [load_rows, load_row, load_row, load_row, load_row, load_row, load_square]
  pointwise [k1_pay64]
  rw [feature_one, gate_one]
  rfl

theorem gram_zero (r l : Fin 300) :
    (k1_pay123 (F := Ideal) x0 x1 x2 x3 x4 x5 x6 x7 x8 x9 x10 x11 (ix2 r l) : EReal) =
      gram (fun r c => k1_pay122 (F := Ideal) x0 x1 x2 x3 x4 x5 x6 x7 x8 x9 x10 x11 (ix2 r c)) r l := by
  change (k1_pay15 (F := Ideal) (k1_pay116 x0 x1 x2 x3 x4 x5 x6 x7 x8 x9 x10 x11)
    (k1_pay120 x0 x1 x2 x3 x4 x5 x6 x7 x8 x9 x10 x11) (ix2 r l) : EReal) =
      gram (fun r c => k1_pay14 (F := Ideal) (k1_pay116 x0 x1 x2 x3 x4 x5 x6 x7 x8 x9 x10 x11)
    (k1_pay120 x0 x1 x2 x3 x4 x5 x6 x7 x8 x9 x10 x11) (ix2 r c)) r l
  pointwise [k1_pay15]
  rfl

theorem gram_one (r l : Fin 300) :
    (k1_pay142 (F := Ideal) x0 x1 x2 x3 x4 x5 x6 x7 x8 x9 x10 x11 (ix2 r l) : EReal) =
      gram (fun r c => k1_pay141 (F := Ideal) x0 x1 x2 x3 x4 x5 x6 x7 x8 x9 x10 x11 (ix2 r c)) r l := by
  change (k1_pay65 (F := Ideal) (k1_pay117 x0 x1 x2 x3 x4 x5 x6 x7 x8 x9 x10 x11)
    (k1_pay121 x0 x1 x2 x3 x4 x5 x6 x7 x8 x9 x10 x11) (ix2 r l) : EReal) =
      gram (fun r c => k1_pay64 (F := Ideal) (k1_pay117 x0 x1 x2 x3 x4 x5 x6 x7 x8 x9 x10 x11)
    (k1_pay121 x0 x1 x2 x3 x4 x5 x6 x7 x8 x9 x10 x11) (ix2 r c)) r l
  pointwise [k1_pay65]
  rfl

end Whole

end Cert.KernelIdeal.Feature
-- ==== Proof.Sort.lean ====
/-
  A descending sort of different numbers: the entry it puts at position `k` is the one with exactly `k` greater
  entries.  No program is named here.
-/
module

public import Idealize.ShloMosaic.Lib.SortFacts
public import Idealize.ShloMosaic.Lib.Pointwise
public import Idealize.ShloMosaic.PureOps

@[expose] public section

noncomputable section

namespace Cert.Proof

open Idealize.ShloMosaic

/-- Whether `a` goes before `b` in the descending order of `v`. -/
def before {n : Nat} (v : Fin n → EReal) (a b : Fin n) : Bool := decide (v b < v a)

theorem before_false {n : Nat} (v : Fin n → EReal) (a b : Fin n) : before v a b = false ↔ v a ≤ v b := by
  simp [before]

/-- The sorted values descend strictly. -/
theorem sorted_descends {n : Nat} (v : Fin n → EReal) (hv : Function.Injective v) (i j : Fin n) (hij : i < j) :
    v (sortedFrom (before v) j) < v (sortedFrom (before v) i) := by
  have h := sortedFrom_noInversion (before v) (before v)
    (fun a b h => by rw [before_false]; exact le_of_lt (by simpa [before] using h))
    (fun _ _ h => h)
    (fun a b c hab hbc => by rw [before_false] at *; exact le_trans hab hbc) i j hij
  rw [before_false] at h
  refine lt_of_le_of_ne h fun e => ?_
  exact absurd (sortedFrom_injective _ (hv e)) (ne_of_gt hij)

/-- Exactly `k` entries are greater than the one at position `k`. -/
theorem greater_than_sorted {n : Nat} (v : Fin n → EReal) (hv : Function.Injective v) (k : Fin n) :
    (Finset.univ.filter fun j => v (sortedFrom (before v) k) < v j).card = k.val := by
  have hset : (Finset.univ.filter fun j => v (sortedFrom (before v) k) < v j)
      = (Finset.Iio k).map ⟨sortedFrom (before v), sortedFrom_injective _⟩ := by
    ext j
    simp only [Finset.mem_filter, Finset.mem_univ, true_and, Finset.mem_map, Finset.mem_Iio,
      Function.Embedding.coeFn_mk]
    constructor
    · intro h
      obtain ⟨i, rfl⟩ := sortedFrom_surjective (before v) j
      refine ⟨i, ?_, rfl⟩
      by_contra hik
      rcases eq_or_lt_of_le (not_lt.mp hik) with e | e
      · rw [e] at h; exact lt_irrefl _ h
      · exact lt_asymm h (sorted_descends v hv k i e)
    · rintro ⟨i, hi, rfl⟩
      exact sorted_descends v hv i k hi
  rw [hset, Finset.card_map, Fin.card_Iio]

/-- Among different numbers one entry has exactly `k` greater ones: the one at position `k`. -/
theorem greater_card_iff {n : Nat} (v : Fin n → EReal) (hv : Function.Injective v) (k l : Fin n) :
    (Finset.univ.filter fun j => v l < v j).card = k.val ↔ l = sortedFrom (before v) k := by
  constructor
  · intro h
    obtain ⟨i, rfl⟩ := sortedFrom_surjective (before v) l
    rw [greater_than_sorted v hv] at h
    rw [Fin.ext h]
  · rintro rfl
    exact greater_than_sorted v hv k

/-- A slice that keeps everything. -/
theorem slice_whole {s : Shape} {α : Type} (y : s.Idx → α) (h : s.Slices (fun _ => 0) s) (j : s.Idx) :
    extractStridedSlice s (fun _ => 0) y h j = y j := by
  refine congrArg y (funext fun d => Fin.ext ?_)
  exact Nat.zero_add _

/-- The second operand of a sort of two, at an index. -/
theorem sort2_second {s : Shape} {d : Nat} (hd : d < s.rank) {α β : Type} (cmp : α × β → α × β → BitVec 1)
    (x : s.Idx → α) (y : s.Idx → β) (j : s.Idx) :
    (Host.sort2 s d cmp x y).2 j = y (j.along ⟨d, hd⟩
      (sortedFrom (fun k k' => cmp (x (j.along ⟨d, hd⟩ k), y (j.along ⟨d, hd⟩ k))
        (x (j.along ⟨d, hd⟩ k'), y (j.along ⟨d, hd⟩ k')) == 1#1) (j ⟨d, hd⟩))) := by
  simp only [Host.sort2, dif_pos hd]

/-- The indices of a top-k that keeps the whole axis, at an index. -/
theorem topK_second {s : Shape} {d : Nat} (hd : d < s.rank) {α : Type} (gt : α → α → BitVec 1) (x : s.Idx → α)
    (h : s.Slices (fun _ => 0) s) (j : s.Idx) :
    (Host.topK s d gt x h).2 j = BitVec.ofNat 32
      (sortedFrom (fun k k' => gt (x (j.along ⟨d, hd⟩ k)) (x (j.along ⟨d, hd⟩ k')) == 1#1) (j ⟨d, hd⟩)).val := by
  have e : (Host.topK s d gt x h).2 j
      = (Host.sort2 s d (fun l r => gt l.1 r.1) x
          (fun i => if hd : d < s.rank then iotaInDim s 32 ⟨d, hd⟩ i else 0#32)).2 j := slice_whole _ h j
  rw [e, sort2_second hd]
  simp only [dif_pos hd, iotaInDim, Shape.Idx.along, Function.update_self]

/-- The indices of the descending sort of the rows of a three-dimensional array. -/
theorem topK_index {p m n : Nat} (x : (⟨3, ![p, m, n]⟩ : Shape).Idx → EReal)
    (h : (⟨3, ![p, m, n]⟩ : Shape).Slices (fun _ => 0) ⟨3, ![p, m, n]⟩) (b : Fin p) (r : Fin m) (k : Fin n) :
    (Host.topK (⟨3, ![p, m, n]⟩ : Shape) 2
      (FloatOps.cmpfTotal (F := Ideal) (φ := .f32) .gt) x h).2 (ix3 b r k)
      = BitVec.ofNat 32 (sortedFrom (before fun l => x (ix3 b r l)) k).val := by
  have hd : 2 < (⟨3, ![p, m, n]⟩ : Shape).rank := Nat.lt_succ_self 2
  have hal : ∀ k' : Fin n, Shape.Idx.along (s := ⟨3, ![p, m, n]⟩) (ix3 b r k) ⟨2, hd⟩ k' = ix3 b r k' := by
    intro k'
    funext d
    fin_cases d <;> rfl
  rw [topK_second (s := ⟨3, ![p, m, n]⟩) (d := 2) hd]
  refine congrArg (BitVec.ofNat 32) (congrArg Fin.val (congrFun (congrArg (sortedFrom (n := n)) ?_) k))
  funext k' k''
  rw [hal k', hal k'']
  change (Ideal.cmp .ogt (x (ix3 b r k')) (x (ix3 b r k'')) == 1#1) = _
  by_cases hlt : x (ix3 b r k'') < x (ix3 b r k') <;> simp [before, Ideal.cmp, hlt]

end Cert.Proof

end
-- ==== Proof.Select.lean ====
/-
  The second call's choice of eight positions a row: by counting greater entries it adds up the features of the
  positions that a descending sort puts at the eight wanted ranks.
-/
module

public import proofs.«01_k».proof.Proof.Feature
public import proofs.«01_k».proof.Proof.Sort

@[expose] public section

set_option maxRecDepth 16384

noncomputable section

namespace Cert.KernelIdeal.Select

open Idealize.ShloMosaic Idealize.SL.Sem Idealize.ShloMosaic.TcCoe Idealize.ShloMosaic.Tactic
open Cert.KernelIdeal.Gen Cert.KernelIdeal.Body Cert.Model Cert.Proof

/-- The eight wanted ranks. -/
def wanted (t : Fin 8) : Fin 300 := ⟨(75 + 150 * t.val) / 4, by omega⟩

theorem wanted_injective : Function.Injective wanted := by decide

theorem indicator (p : Prop) [Decidable p] :
    (FloatOps.sitofp .f32 (BitVec.setWidth 32 (BitVec.ofBool (decide p))) : Ideal .f32) = if p then (1 : EReal) else 0 := by
  by_cases h : p
  · simp only [h, decide_true, if_true]
    change (((BitVec.setWidth 32 (BitVec.ofBool true)).toInt : ℝ) : EReal) = 1
    rw [show (BitVec.setWidth 32 (BitVec.ofBool true)).toInt = 1 by decide]; norm_num
  · simp only [h, decide_false, if_false]
    change (((BitVec.setWidth 32 (BitVec.ofBool false)).toInt : ℝ) : EReal) = 0
    rw [show (BitVec.setWidth 32 (BitVec.ofBool false)).toInt = 0 by decide]; norm_num

/-- A sum of ones counts. -/
theorem sum_indicator {n : ℕ} (p : Fin n → Prop) [DecidablePred p] :
    (∑ x, if p x then (1 : EReal) else 0) = (((Finset.univ.filter p).card : ℝ) : EReal) := by
  rw [← Finset.sum_filter, Finset.sum_const, nsmul_one]
  norm_cast

theorem rank_value (d2 : FVec Ideal S300x300 .f32) (n : Fin 15) (i : Fin 20) (l : Fin 300) :
    (rank (F := Ideal) n d2 (ix2 i l) : EReal) =
      (((Finset.univ.filter fun j => (d2 (ix2 (cell n i) l) : EReal) < d2 (ix2 (cell n i) j)).card : ℝ) : EReal) := by
  pointwise [rank]
  refine (Finset.sum_congr rfl fun x _ => indicator _).trans ?_
  exact sum_indicator _

theorem half_even_eq (x : ℝ) (k : ℤ) (h1 : (k : ℝ) - 1 / 2 < x) (h2 : x < k + 1 / 2) : Ideal.roundHalfEven x = k := by
  unfold Ideal.roundHalfEven
  by_cases h : (k : ℝ) ≤ x
  · have hf : ⌊x⌋ = k := Int.floor_eq_iff.mpr ⟨h, by linarith⟩
    simp only [hf]
    rw [if_pos (by linarith)]
  · have hf : ⌊x⌋ = k - 1 := Int.floor_eq_iff.mpr ⟨by push_cast; linarith, by push_cast; linarith⟩
    simp only [hf]
    push_cast
    rw [if_neg (by linarith), if_pos (by linarith)]
    ring

/-- The nearest wanted rank, over whole numbers. -/
def nearest (k : ℕ) : ℤ :=
  ⌊(75 / 4 : ℝ) + 75 / 2 * ((min 7 (max 0 (Ideal.roundHalfEven (((k : ℝ) - 75 / 4) * (14316558 / 536870912)))) : ℤ) : ℝ)⌋

theorem floor_step (m : Fin 8) : ⌊(75 / 4 : ℝ) + 75 / 2 * ((m.val : ℤ) : ℝ)⌋ = ((wanted m).val : ℤ) := by
  fin_cases m <;> (rw [Int.floor_eq_iff]; norm_num [wanted])

theorem nearest_wanted (t : Fin 8) : nearest (wanted t).val = (wanted t).val := by
  have h : Ideal.roundHalfEven ((((wanted t).val : ℝ) - 75 / 4) * (14316558 / 536870912)) = (t.val : ℤ) := by
    apply half_even_eq <;> fin_cases t <;> norm_num [wanted]
  unfold nearest
  rw [h, ← floor_step t]
  congr 3
  have := t.isLt
  norm_cast
  omega

theorem nearest_iff (k : ℕ) : (k : ℤ) = nearest k ↔ ∃ t, k = (wanted t).val := by
  constructor
  · intro h
    unfold nearest at h
    generalize Ideal.roundHalfEven (((k : ℝ) - 75 / 4) * (14316558 / 536870912)) = z at h
    have h0 : 0 ≤ min 7 (max 0 z) := by omega
    have h7 : min 7 (max 0 z) < 8 := by omega
    obtain ⟨m, hm⟩ := Int.eq_ofNat_of_zero_le h0
    refine ⟨⟨m, by omega⟩, ?_⟩
    rw [hm] at h
    have := floor_step ⟨m, by omega⟩
    rw [← h] at this
    exact_mod_cast this
  · rintro ⟨t, rfl⟩
    exact (nearest_wanted t).symm

theorem near_value (rk : FVec Ideal S20x300 .f32) (i : Fin 20) (l : Fin 300) (k : ℕ)
    (h : (rk (ix2 i l) : EReal) = ((k : ℝ) : EReal)) :
    (near (F := Ideal) rk (ix2 i l) : EReal) = ((nearest k : ℝ) : EReal) := by
  pointwise [near]
  rw [h, Words.first_rank, Words.rank_step, Words.seven, Words.per_step, ← EReal.coe_sub, ← EReal.coe_mul]
  change Ideal.liftRound Int.floor (_ + _ * min _ (max 0 (((Ideal.roundHalfEven _ : ℤ) : ℝ) : EReal))) = _
  rw [show (0 : EReal) = ((0 : ℝ) : EReal) by norm_cast, ← EReal.coe_strictMono.monotone.map_max,
    ← EReal.coe_strictMono.monotone.map_min, ← EReal.coe_mul, ← EReal.coe_add]
  change (((⌊_⌋ : ℤ) : ℝ) : EReal) = _
  unfold nearest
  push_cast
  rfl

theorem selected_iff (rk : FVec Ideal S20x300 .f32) (i : Fin 20) (l : Fin 300) (k : ℕ)
    (h : (rk (ix2 i l) : EReal) = ((k : ℝ) : EReal)) :
    (rk (ix2 i l) : EReal) = near (F := Ideal) rk (ix2 i l) ↔ ∃ t, k = (wanted t).val := by
  rw [near_value rk i l k h, h, ← nearest_iff]
  constructor
  · intro h; exact_mod_cast EReal.coe_eq_coe_iff.mp h
  · intro h; rw [← h]; norm_cast

/-- A sum over the entries that a list names, each once. -/
theorem sum_selected {n m : ℕ} (s : Fin m → Fin n) (hs : Function.Injective s) (p : Fin n → Prop) [DecidablePred p]
    (hp : ∀ x, p x ↔ ∃ t, x = s t) (f : Fin n → EReal) : (∑ x, (if p x then (1 : EReal) else 0) * f x) = ∑ t, f (s t) := by
  have hset : Finset.univ.filter p = Finset.univ.map ⟨s, hs⟩ := by
    ext x
    simp only [Finset.mem_filter, Finset.mem_univ, true_and, Finset.mem_map, Function.Embedding.coeFn_mk, hp]
    exact exists_congr fun t => eq_comm
  calc (∑ x, (if p x then (1 : EReal) else 0) * f x) = ∑ x, if p x then f x else 0 := by
        refine Finset.sum_congr rfl fun x _ => ?_
        by_cases h : p x
        · rw [if_pos h, if_pos h, one_mul]
        · rw [if_neg h, if_neg h, zero_mul]
    _ = ∑ t, f (s t) := by rw [← Finset.sum_filter, hset, Finset.sum_map]; rfl

/-- Twenty rows of the sums: at every row, the features at the eight wanted ranks. -/
theorem chunk_value (e : FVec Ideal S300x16 .f32) (d2 : FVec Ideal S300x300 .f32) (n : Fin 15) (i : Fin 20) (c : Fin 16)
    (hinj : Function.Injective fun l => (d2 (ix2 (cell n i) l) : EReal)) :
    (chunk (F := Ideal) e (rank n d2) (ix2 i c) : EReal) =
      ∑ t, e (ix2 (sortedFrom (before fun l => (d2 (ix2 (cell n i) l) : EReal)) (wanted t)) c) := by
  pointwise [chunk]
  refine (Finset.sum_congr rfl fun x _ => congrArg (fun u : EReal => u * (e (ix2 x c) : EReal)) (indicator _)).trans ?_
  exact sum_selected (fun t => sortedFrom (before fun l => (d2 (ix2 (cell n i) l) : EReal)) (wanted t))
    (fun a b h => wanted_injective (sortedFrom_injective _ h)) _
    (fun x => (selected_iff _ _ _ _ (rank_value d2 n i x)).trans
      (exists_congr fun t => greater_card_iff _ hinj (wanted t) x)) fun x => (e (ix2 x c) : EReal)

/-- The sums: at every row, the features at the eight wanted ranks. -/
theorem nearSum_value (e : FVec Ideal S300x16 .f32) (d2 : FVec Ideal S300x300 .f32) (r : Fin 300) (c : Fin 16)
    (hinj : Function.Injective fun l => (d2 (ix2 r l) : EReal)) :
    (nearSum (F := Ideal) e d2 (ix2 r c) : EReal) =
      ∑ t, e (ix2 (sortedFrom (before fun l => (d2 (ix2 r l) : EReal)) (wanted t)) c) := by
  have hr := r.isLt
  have hcell := cell_split r
  unfold nearSum
  refine (concatenate_ofFn_apply (t := S300x16) (0 : Fin 2) (fun n : Fin 15 => chunk e (rank n d2)) _ rfl 20 rfl (ix2 r c)
    ⟨r.val / 20, by omega⟩ rfl (ix2 (⟨r.val % 20, by omega⟩ : Fin 20) c) rfl ?_).trans ?_
  · intro a
    fin_cases a
    · exact fun h => absurd rfl h
    · exact fun _ => rfl
  · rw [chunk_value e d2 _ _ c (by rw [hcell]; exact hinj), hcell]

theorem edge_value (e sums : FVec Ideal S300x16 .f32) (lw : FVec Ideal S16x16 .f32) (lb : FVec Ideal S1x16 .f32)
    (r : Fin 300) (o : Fin 16) :
    (edge (F := Ideal) e sums lw lb (ix2 r o) : EReal) =
      ∑ c, (sums (ix2 r c) * Ideal.ofBits .f32 0x3E000000#32 - e (ix2 r c)) * lw (ix2 o c) + lb (ix2 (0 : Fin 1) o) := by
  pointwise [edge]

theorem upRow_value (ed : FVec Ideal S300x16 .f32) (uw : FVec Ideal S80x20 .f32) (n : Fin 15) (c : Fin 16) (w : Fin 80) :
    (upRow (F := Ideal) ed uw n (ix2 c w) : EReal) = ∑ j, (ed (ix2 (cell n j) c) : EReal) * uw (ix2 w j) := by
  pointwise [upRow]
  rfl

theorem upWide_value (ed : FVec Ideal S300x16 .f32) (uw : FVec Ideal S80x20 .f32) (q : Fin 240) (w : Fin 80)
    (n : Fin 15) (c : Fin 16) (hq : q.val = 16 * n.val + c.val) :
    (upWide (F := Ideal) ed uw (ix2 q w) : EReal) = ∑ j, (ed (ix2 (cell n j) c) : EReal) * uw (ix2 w j) := by
  have hc := c.isLt
  unfold upWide
  refine (concatenate_ofFn_apply (t := S240x80) (0 : Fin 2) (fun n : Fin 15 => upRow ed uw n) _ rfl 16 rfl (ix2 q w) n
    ?_ (ix2 c w) ?_ ?_).trans (upRow_value ed uw n c w)
  · change q.val / 16 = n.val; omega
  · change c.val = q.val % 16; omega
  · intro a
    fin_cases a
    · exact fun h => absurd rfl h
    · exact fun _ => rfl

theorem out_value (wide : FVec Ideal S240x80 .f32) (k3 : FVec Ideal S960x240 .f32) (pe : FVec Ideal S960x80 .f32)
    (p : Fin 960) (w : Fin 80) :
    (Body.out (F := Ideal) wide k3 pe (ix3 (0 : Fin 1) p w) : EReal) =
      ∑ q, (k3 (ix2 p q) : EReal) * wide (ix2 q w) + pe (ix2 p w) := by
  pointwise [Body.out]

end Cert.KernelIdeal.Select
-- ==== Proof.Lerp.lean ====
/-
  Doubling a line by linear interpolation, as the weights (in quarters, then sixteenths) of the source entries.  No
  program is named here.
-/
module

public import Idealize.ShloMosaic.Lib.Pointwise

@[expose] public section

set_option maxRecDepth 16384

namespace Cert.Lerp

/-- The farther source entry of the doubled line's entry `p`. -/
def far (n p : Nat) : Nat :=
  bif Nat.beq (p % 2) 0 then p / 2 - 1 else bif Nat.ble n (p / 2 + 1) then p / 2 else p / 2 + 1

/-- The weight of source entry `i` in the doubled line's entry `p`, in quarters. -/
def quarters (n p i : Nat) : Nat :=
  (bif Nat.beq i (far n p) then 1 else 0) + (bif Nat.beq i (p / 2) then 3 else 0)

/-- The weight of source entry `i` in the twice doubled line's entry `h`, in sixteenths. -/
def sixteenths (n h i : Nat) : Nat := quarters n (far (2 * n) h) i + 3 * quarters n (h / 2) i

/-- The float word of so many sixteenths. -/
def word : Nat → Nat
  | 0 => 0x00000000
  | 1 => 0x3D800000
  | 2 => 0x3E000000
  | 3 => 0x3E400000
  | 4 => 0x3E800000
  | 5 => 0x3EA00000
  | 6 => 0x3EC00000
  | 7 => 0x3EE00000
  | 8 => 0x3F000000
  | 9 => 0x3F100000
  | 10 => 0x3F200000
  | 11 => 0x3F300000
  | 12 => 0x3F400000
  | 13 => 0x3F500000
  | 14 => 0x3F600000
  | 15 => 0x3F700000
  | 16 => 0x3F800000
  | _ => 0

/-- The words of the interpolation of 15 lines to 60, for each of 16 channels apart: entry `k` of a 960 by 240 table. -/
def tall (k : Nat) : Nat :=
  if k % 16 = k / 14400 then word (sixteenths 15 (k / 240 % 60) (k % 240 / 16)) else 0

/-- The words of the interpolation of 15 lines to 60: entry `k` of the 60 by 15 table. -/
def steep (k : Nat) : Nat := word (sixteenths 15 (k / 15) (k % 15))

/-- The words of the interpolation of 20 columns to 80: entry `k` of the 80 by 20 table. -/
def wide (k : Nat) : Nat := word (sixteenths 20 (k / 20) (k % 20))

/-- Whether a table agrees with a function at `n` entries from entry `k` on. -/
def agrees (f : Nat → BitVec 32) (g : Nat → Nat) : Nat → Nat → Bool
  | 0, _ => true
  | n + 1, k => bif Nat.beq (f k).toNat (g k) then agrees f g n (k + 1) else false

theorem agrees_at (f : Nat → BitVec 32) (g : Nat → Nat) (n : Nat) : ∀ k, agrees f g n k = true →
    ∀ x, k ≤ x → x < k + n → f x = BitVec.ofNat 32 (g x) := by
  induction n with
  | zero => intro k _ x h1 h2; omega
  | succ n ih =>
    intro k h x h1 h2
    rw [agrees, Bool.cond_eq_ite] at h
    split at h
    · rename_i hk
      by_cases hx : x = k
      · subst hx
        rw [← Nat.eq_of_beq_eq_true hk, BitVec.ofNat_toNat, BitVec.setWidth_eq]
      · exact ih (k + 1) h x (by omega) (by omega)
    · exact absurd h (by decide)

end Cert.Lerp
-- ==== Proof.Tables.lean ====
/-
  The interpolation tables of the second call, entry by entry.
-/
module

public import proofs.«01_k».proof.Proof.Lerp
public import proofs.«01_k».proof.KernelIdeal

@[expose] public section

set_option maxRecDepth 16384

noncomputable section

namespace Cert.KernelIdeal.Table

open Cert.Lerp Cert.KernelIdeal

/-- Entry `k` of the 60 by 15 table. -/
theorem steep_word (k : Nat) (hk : k < 900) : lit1t k = BitVec.ofNat 32 (steep k) :=
  agrees_at lit1t steep 900 0 (by decide +kernel) k (Nat.zero_le _) (by omega)

/-- Entry `k` of the 80 by 20 table. -/
theorem wide_word (k : Nat) (hk : k < 1600) : lit0t k = BitVec.ofNat 32 (wide k) :=
  agrees_at lit0t wide 1600 0 (by decide +kernel) k (Nat.zero_le _) (by omega)

end Cert.KernelIdeal.Table

end
-- ==== Proof.Double.lean ====
/-
  The weights of a line doubled twice by linear interpolation, over the reals.  No program is named here.
-/
module

public import proofs.«01_k».proof.Proof.Lerp
public import proofs.«01_k».proof.Proof.Words

@[expose] public section

set_option maxRecDepth 16384

noncomputable section

namespace Cert.Lerp

open Idealize.ShloMosaic

theorem far_even (n p : Nat) (h : p % 2 = 0) : far n p = p / 2 - 1 := by
  unfold far; rw [h]; rfl

theorem far_last (n p : Nat) (h : p % 2 = 1) (hn : n ≤ p / 2 + 1) : far n p = p / 2 := by
  unfold far; rw [h, show Nat.ble n (p / 2 + 1) = true from Nat.ble_eq.mpr hn]; rfl

theorem far_odd (n p : Nat) (h : p % 2 = 1) (hn : p / 2 + 1 < n) : far n p = p / 2 + 1 := by
  unfold far
  rw [h, show Nat.ble n (p / 2 + 1) = false by
    rw [← Bool.not_eq_true]; exact fun q => absurd (Nat.le_of_ble_eq_true q) (by omega)]
  rfl

theorem far_lt (n p : Nat) (h : p < 2 * n) : far n p < n := by
  rcases Nat.mod_two_eq_zero_or_one p with q | q
  · rw [far_even n p q]; omega
  · by_cases hn : n ≤ p / 2 + 1
    · rw [far_last n p q hn]; omega
    · rw [far_odd n p q (by omega)]; omega

/-- The farther source entry. -/
def other {n m : Nat} (hm : m = 2 * n) (p : Fin m) : Fin n := ⟨far n p.val, far_lt n p.val (hm ▸ p.isLt)⟩

/-- The nearer source entry. -/
def close {n m : Nat} (hm : m = 2 * n) (p : Fin m) : Fin n := ⟨p.val / 2, by have := p.isLt; omega⟩

theorem sum_pick {n : Nat} (a : Fin n) (k : Nat) (φ : Fin n → ℝ) :
    (∑ i : Fin n, ((bif Nat.beq i.val a.val then k else 0 : Nat) : ℝ) * φ i) = k * φ a := by
  rw [Finset.sum_eq_single a]
  · rw [Nat.beq_refl]; rfl
  · intro i _ hi
    have : Nat.beq i.val a.val = false := by
      rw [← Bool.not_eq_true]; exact fun q => hi (Fin.ext (Nat.eq_of_beq_eq_true q))
    rw [this]
    change ((0 : ℕ) : ℝ) * φ i = 0
    rw [Nat.cast_zero, zero_mul]
  · intro h; exact absurd (Finset.mem_univ a) h

theorem sum_quarters {n m : Nat} (hm : m = 2 * n) (p : Fin m) (φ : Fin n → ℝ) :
    (∑ i : Fin n, (quarters n p.val i.val : ℝ) * φ i) = φ (other hm p) + 3 * φ (close hm p) := by
  have h1 := sum_pick (other hm p) 1 φ
  have h3 := sum_pick (close hm p) 3 φ
  rw [Nat.cast_one, one_mul] at h1
  rw [← h1, show (3 : ℝ) = ((3 : ℕ) : ℝ) by norm_num, ← h3, ← Finset.sum_add_distrib]
  refine Finset.sum_congr rfl fun i _ => ?_
  rw [← add_mul, ← Nat.cast_add]
  rfl

theorem sum_sixteenths {n m l : Nat} (hm : m = 2 * n) (hl : l = 2 * m) (h : Fin l) (φ : Fin n → ℝ) :
    (∑ i : Fin n, (sixteenths n h.val i.val : ℝ) * φ i) =
      (φ (other hm (other hl h)) + 3 * φ (close hm (other hl h))) +
        3 * (φ (other hm (close hl h)) + 3 * φ (close hm (close hl h))) := by
  rw [← sum_quarters hm (other hl h) φ, ← sum_quarters hm (close hl h) φ, Finset.mul_sum, ← Finset.sum_add_distrib]
  refine Finset.sum_congr rfl fun i _ => ?_
  unfold sixteenths other close
  subst hm
  push_cast
  ring

theorem sixteenths_le (n h i : Nat) : sixteenths n h i ≤ 16 := by
  unfold sixteenths quarters
  generalize Nat.beq i (far n (far (2 * n) h)) = a
  generalize Nat.beq i (far (2 * n) h / 2) = b
  generalize Nat.beq i (far n (h / 2)) = c
  generalize Nat.beq i (h / 2 / 2) = d
  revert a b c d
  decide

theorem quarter : Ideal.ofBits .f32 0x3E800000#32 = (((1 : ℝ) / 4 : ℝ) : EReal) := by
  simp [Ideal.ofBits, Ideal.ieee, -EReal.coe_mul]; norm_num
theorem three_quarters : Ideal.ofBits .f32 0x3F400000#32 = (((3 : ℝ) / 4 : ℝ) : EReal) := by
  simp [Ideal.ofBits, Ideal.ieee, -EReal.coe_mul]; norm_num

/-- One interpolated entry. -/
def mixed (near far : EReal) : EReal := Ideal.ofBits .f32 0x3E800000#32 * far + Ideal.ofBits .f32 0x3F400000#32 * near

theorem mixed_real (x y : ℝ) : mixed (x : EReal) (y : EReal) = (((y + 3 * x) / 4 : ℝ) : EReal) := by
  unfold mixed
  rw [quarter, three_quarters, ← EReal.coe_mul, ← EReal.coe_mul, ← EReal.coe_add]
  congr 1
  ring

/-- The number that the word of so many sixteenths stands for. -/
theorem word_value (n : Nat) (h : n ≤ 16) :
    Ideal.ofBits .f32 (BitVec.ofNat 32 (word n)) = (((n : ℝ) / 16 : ℝ) : EReal) := by
  interval_cases n <;> (simp [Ideal.ofBits, Ideal.ieee, word, -EReal.coe_mul] <;> norm_num)

end Cert.Lerp
-- ==== Proof.Real.lean ====
/-
  On real inputs every number of the model is real: no sum meets two infinities, and no quotient's divisor is zero.
-/
module

public import proofs.«01_k».proof.Proof.Model
public import proofs.«01_k».proof.Proof.Words

@[expose] public section

set_option maxRecDepth 16384

noncomputable section

namespace Cert.Model

open Idealize.ShloMosaic

/-- The extended real is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

theorem coe_sum {n : ℕ} (f : Fin n → ℝ) : ∑ i, (f i : EReal) = ((∑ i, f i : ℝ) : EReal) := by
  induction n with
  | zero => simp
  | succ n ih => rw [Fin.sum_univ_succ, Fin.sum_univ_succ, EReal.coe_add, ih]

theorem isReal_sum {n : ℕ} {f : Fin n → EReal} (h : ∀ i, IsReal (f i)) : IsReal (∑ i, f i) := by
  choose g hg using h
  exact ⟨∑ i, g i, (Finset.sum_congr rfl fun i _ => hg i).trans (coe_sum g)⟩

theorem IsReal.div {x y : EReal} (hx : IsReal x) (r : ℝ) (hy : y = (r : EReal)) (hr : r ≠ 0) : IsReal (Ideal.div x y) := by
  obtain ⟨a, rfl⟩ := hx; rw [hy]; exact ⟨a / r, Words.div_real a r hr⟩

/-- The variance of real numbers over a positive count, with a positive number added, has a positive real root. -/
theorem root_positive {n m : ℕ} {f : Fin n → Fin m → EReal} (h : ∀ i j, IsReal (f i j)) (k : EReal) (r : ℝ)
    (hk : k = (r : EReal)) (hr : 0 < r) :
    ∃ t : ℝ, 0 < t ∧ Ideal.sqrt (Ideal.div (∑ i, ∑ j, f i j * f i j) k + Ideal.ofBits .f32 0x3727C5AC#32) = (t : EReal) := by
  choose g hg using h
  have e : ∑ i, ∑ j, f i j * f i j = ((∑ i, ∑ j, g i j * g i j : ℝ) : EReal) := by
    rw [← coe_sum]
    refine Finset.sum_congr rfl fun i _ => ?_
    rw [← coe_sum]
    refine Finset.sum_congr rfl fun j _ => ?_
    rw [hg, EReal.coe_mul]
  have hp : (0 : ℝ) ≤ ∑ i, ∑ j, g i j * g i j :=
    Finset.sum_nonneg fun i _ => Finset.sum_nonneg fun j _ => mul_self_nonneg _
  have hs : 0 < (∑ i, ∑ j, g i j * g i j) / r + 10995116 / 1099511627776 := by positivity
  refine ⟨Real.sqrt ((∑ i, ∑ j, g i j * g i j) / r + 10995116 / 1099511627776), Real.sqrt_pos.mpr hs, ?_⟩
  rw [e, hk, Words.div_real _ _ hr.ne', Words.tiny, ← EReal.coe_add]
  exact if_neg (not_lt.mpr hs.le)

theorem isReal_conv (x : (⟨4, ![2, 64, 240, 320]⟩ : Shape).Idx → EReal) (w : (⟨4, ![16, 64, 16, 16]⟩ : Shape).Idx → EReal)
    (hx : ∀ i, IsReal (x i)) (hw : ∀ i, IsReal (w i)) (b : Fin 2) (r : Fin 300) (o : Fin 16) : IsReal (conv x w b r o) :=
  isReal_sum fun _ => isReal_sum fun _ => isReal_sum fun _ => (hw _).mul (hx _)

section Features

variable (y : Fin 2 → Fin 300 → Fin 16 → EReal) (g s : Fin 16 → EReal) (w : Fin 16 → Fin 16 → EReal) (g' s' : Fin 16 → EReal)
  (hy : ∀ b r c, IsReal (y b r c)) (hg : ∀ c, IsReal (g c)) (hs : ∀ c, IsReal (s c)) (hw : ∀ o c, IsReal (w o c))
  (hg' : ∀ c, IsReal (g' c)) (hs' : ∀ c, IsReal (s' c))

include hy in
theorem isReal_mean (c : Fin 16) : IsReal (mean y c) :=
  (isReal_sum fun _ => isReal_sum fun _ => hy _ _ _).div 600 Words.six_hundred (by norm_num)

include hy hg hs in
theorem isReal_feature (b : Fin 2) (r : Fin 300) (c : Fin 16) : IsReal (feature y g s b r c) := by
  obtain ⟨t, ht, e⟩ := root_positive (f := fun b r => y b r c - mean y c)
    (fun b r => (hy b r c).sub (isReal_mean y hy c)) _ 600 Words.six_hundred (by norm_num)
  exact (((((hy b r c).sub (isReal_mean y hy c)).div t e ht.ne').mul (hg c)).add (hs c)).max isReal_zero

include hy hg hs hw in
theorem isReal_attend (b : Fin 2) (o : Fin 16) : IsReal (attend y g s w b o) :=
  isReal_sum fun c => (hw o c).mul
    ((isReal_sum fun r => isReal_feature y g s hy hg hs b r c).div 300 Words.three_hundred (by norm_num))

include hy hg hs hw in
theorem isReal_attendMean (o : Fin 16) : IsReal (attendMean y g s w o) :=
  (isReal_sum fun b => isReal_attend y g s w hy hg hs hw b o).div 2 Words.two (by norm_num)

include hy hg hs hw hg' hs' in
theorem isReal_gate (b : Fin 2) (o : Fin 16) : IsReal (gate y g s w g' s' b o) := by
  have hd : ∀ b, IsReal (attend y g s w b o - attendMean y g s w o) := fun b =>
    (isReal_attend y g s w hy hg hs hw b o).sub (isReal_attendMean y g s w hy hg hs hw o)
  obtain ⟨t, ht, e⟩ := root_positive (n := 2) (m := 1) (f := fun b _ => attend y g s w b o - attendMean y g s w o)
    (fun b _ => hd b) _ 2 Words.two (by norm_num)
  have e' : Ideal.sqrt (attendVariance y g s w o + Ideal.ofBits .f32 0x3727C5AC#32) = (t : EReal) := by
    rw [← e]
    unfold attendVariance
    simp only [Finset.univ_unique, Finset.sum_singleton]
  obtain ⟨z, hz⟩ := (((hd b).div t e' ht.ne').mul (hg' o)).add (hs' o)
  unfold gate
  rw [hz, ← EReal.coe_neg]
  refine IsReal.div ⟨1, rfl⟩ (1 + Real.exp (-z)) ?_ (by positivity)
  rw [EReal.coe_add]
  rfl

include hy hg hs hw hg' hs' in
theorem isReal_attended (b : Fin 2) (r : Fin 300) (c : Fin 16) : IsReal (attended y g s w g' s' b r c) :=
  (isReal_feature y g s hy hg hs b r c).mul (isReal_gate y g s w g' s' hy hg hs hw hg' hs' b c)

end Features

end Cert.Model
-- ==== Proof.Interpolate.lean ====
/-
  The kernel's two interpolating products are the line-by-line doubling, done four times.
-/
module

public import proofs.«01_k».proof.Proof.Tables
public import proofs.«01_k».proof.Proof.Double
public import proofs.«01_k».proof.Proof.Real
public import proofs.«01_k».proof.ReferenceIdeal

@[expose] public section

set_option maxRecDepth 16384

noncomputable section

namespace Cert.KernelIdeal.Table

open Idealize.ShloMosaic Cert.Lerp Cert.Model

/-- Rows doubled. -/
def rowsTwice {n m : ℕ} {β : Type} (hm : m = 2 * n) (d : Fin n → β → EReal) (p : Fin m) (j : β) : EReal :=
  mixed (d (close hm p) j) (d (other hm p) j)

/-- Columns doubled. -/
def columnsTwice {n m : ℕ} {β : Type} (hm : m = 2 * n) (d : β → Fin n → EReal) (i : β) (p : Fin m) : EReal :=
  mixed (d i (close hm p)) (d i (other hm p))

/-- The 15 by 20 map doubled in rows, in columns, in rows and in columns. -/
def fourfold (d : Fin 15 → Fin 20 → EReal) : Fin 60 → Fin 80 → EReal :=
  columnsTwice (n := 40) rfl (rowsTwice (n := 30) rfl (columnsTwice (n := 20) rfl (rowsTwice (n := 15) rfl d)))

theorem fourfold_sum (d : Fin 15 → Fin 20 → EReal) (hd : ∀ i j, IsReal (d i j)) (h : Fin 60) (w : Fin 80) :
    ∑ i : Fin 15, Ideal.ofBits .f32 (BitVec.ofNat 32 (word (sixteenths 15 h.val i.val))) *
        ∑ j : Fin 20, d i j * Ideal.ofBits .f32 (BitVec.ofNat 32 (word (sixteenths 20 w.val j.val)))
      = fourfold d h w := by
  choose f hf using hd
  have h1 : ∀ i : Fin 15, ∑ j : Fin 20, d i j * Ideal.ofBits .f32 (BitVec.ofNat 32 (word (sixteenths 20 w.val j.val)))
      = (((∑ j : Fin 20, (sixteenths 20 w.val j.val : ℝ) * f i j) / 16 : ℝ) : EReal) := fun i => by
    rw [Finset.sum_div, ← coe_sum]
    refine Finset.sum_congr rfl fun j _ => ?_
    rw [hf, word_value _ (sixteenths_le _ _ _), ← EReal.coe_mul]
    congr 1
    ring
  have h2 : ∑ i : Fin 15, Ideal.ofBits .f32 (BitVec.ofNat 32 (word (sixteenths 15 h.val i.val))) *
        ∑ j : Fin 20, d i j * Ideal.ofBits .f32 (BitVec.ofNat 32 (word (sixteenths 20 w.val j.val)))
      = (((∑ i : Fin 15, (sixteenths 15 h.val i.val : ℝ) * ∑ j : Fin 20, (sixteenths 20 w.val j.val : ℝ) * f i j) / 256 : ℝ) : EReal) := by
    rw [Finset.sum_div, ← coe_sum]
    refine Finset.sum_congr rfl fun i _ => ?_
    rw [h1, word_value _ (sixteenths_le _ _ _), ← EReal.coe_mul]
    congr 1
    ring
  rw [h2, sum_sixteenths (n := 15) (m := 30) rfl rfl h]
  simp only [sum_sixteenths (n := 20) (m := 40) rfl rfl w]
  unfold fourfold columnsTwice rowsTwice
  simp only [hf, mixed_real]
  congr 1
  ring

/-- A row of the 960 by 240 table picks its own channel. -/
theorem tall_entry (o c : Fin 16) (h : Fin 60) (n : Fin 15) (p : Fin 960) (hp : p.val = 60 * o.val + h.val) (q : Fin 240)
    (hq : q.val = 16 * n.val + c.val) :
    BitVec.ofNat 32 (tall (p.val * 240 + q.val)) = BitVec.ofNat 32 (if c = o then word (sixteenths 15 h.val n.val) else 0) := by
  have ho := o.isLt
  have hc := c.isLt
  have hh := h.isLt
  have hn := n.isLt
  unfold tall
  rw [show (p.val * 240 + q.val) % 16 = c.val by omega, show (p.val * 240 + q.val) / 14400 = o.val by omega,
    show (p.val * 240 + q.val) / 240 % 60 = h.val by omega, show (p.val * 240 + q.val) % 240 / 16 = n.val by omega]
  exact congrArg (BitVec.ofNat 32) (if_congr Fin.ext_iff.symm rfl rfl)

/-- The product with the 960 by 240 table. -/
theorem tall_sum (o : Fin 16) (h : Fin 60) (p : Fin 960) (hp : p.val = 60 * o.val + h.val) (x : Fin 240 → EReal) :
    ∑ q : Fin 240, Ideal.ofBits .f32 (BitVec.ofNat 32 (tall (p.val * 240 + q.val))) * x q =
      ∑ n : Fin 15, Ideal.ofBits .f32 (BitVec.ofNat 32 (word (sixteenths 15 h.val n.val))) * x ⟨16 * n.val + o.val, by omega⟩ := by
  rw [sum_blocks 15 16 240 rfl _ (fun n c => ⟨16 * n.val + c.val, by omega⟩) fun _ _ => rfl]
  refine Finset.sum_congr rfl fun n _ => ?_
  rw [Finset.sum_eq_single o]
  · rw [tall_entry o o h n p hp _ rfl, if_pos rfl]
  · intro c _ hc
    rw [tall_entry o c h n p hp _ rfl, if_neg hc]
    have : Ideal.ofBits .f32 (BitVec.ofNat 32 0) = 0 := Ideal.ofBits_zero_f32
    rw [this, zero_mul]
  · exact fun hn => absurd (Finset.mem_univ o) hn

/-- The two tables of position terms are one table. -/
theorem positions : lit2t = Cert.ReferenceIdeal.lit0t := rfl

end Cert.KernelIdeal.Table
-- ==== Proof.Conv.lean ====
/-
  What one block of the convolution computes.
-/
module

public import proofs.«01_k».proof.Proof.Result
public import proofs.«01_k».proof.Proof.Model

@[expose] public section

set_option maxRecDepth 16384

noncomputable section

namespace Cert.KernelIdeal.Conv

open Idealize.ShloMosaic Idealize.ShloMosaic.TcCoe Idealize.ShloMosaic.Tactic
open Cert.KernelIdeal.Gen

open Cert.KernelIdeal.Result Cert.Model

theorem row_word (r : Fin 256) (l : Fin 960) : k0_pay3 (ix2 r l) = BitVec.ofNat 32 (r.val % 16) := by
  pointwise [k0_pay3]
  revert r
  decide +kernel

theorem column_word (r : Fin 256) (l : Fin 960) : k0_pay4 (ix2 r l) = BitVec.ofNat 32 (l.val % 16) := by
  pointwise [k0_pay4]
  revert l
  decide +kernel

/-- The mask keeps an entry exactly where its row and its column agree modulo sixteen. -/
theorem mask_word : ∀ a b : Fin 16, IntOp.cmpi CmpIPredicate.eq (BitVec.ofNat 32 a.val)
    (Scalar.select
      (IntOp.andi
        (IntOp.xori (IntOp.cmpi CmpIPredicate.slt (BitVec.ofNat 32 b.val) 0#32)
          (Scalar.cmpi CmpIPredicate.slt (Scalar.select (Scalar.cmpi CmpIPredicate.eq 16#32 0#32) 1#32 16#32) 0#32))
        (IntOp.cmpi CmpIPredicate.ne (BitVec.ofNat 32 b.val) 0#32))
      (IntOp.addi (BitVec.ofNat 32 b.val) (Scalar.select (Scalar.cmpi CmpIPredicate.eq 16#32 0#32) 1#32 16#32))
      (BitVec.ofNat 32 b.val)) = if a = b then 1#1 else 0#1 := by
  decide +kernel

/-- The masked sums of a product keep, for each patch and channel, one entry per column of the patch. -/
theorem masked (p : S256x960.Idx → Ideal .f32) (q : Fin 60) (o : Fin 16) :
    (k0_pay1 (F := Ideal) p k0_pay3 (Scalar.select (Scalar.cmpi .eq 16#32 0#32) 1#32 16#32) k0_pay4 k0_pay5
      (ix3 (0 : Fin 1) q o) : EReal) =
    ∑ kw : Fin 16, (p (ix2 ⟨16 * o.val + kw.val, by omega⟩ ⟨16 * q.val + kw.val, by omega⟩) : EReal) := by
  have hm : ∀ kw k : Fin 16, (⟨o.val * 16 + k.val, by omega⟩ : Fin 256).val % 16 = k.val := fun kw k => by
    change (o.val * 16 + k.val) % 16 = k.val
    omega
  pointwise [k0_pay1, k0_pay5]
  refine Finset.sum_congr rfl fun kw _ => ?_
  rw [Finset.sum_eq_single kw]
  · rw [row_word, column_word]
    have h1 : (o.val * 16 + kw.val) % 16 = kw.val := by omega
    have h2 : (q.val * 16 + kw.val) % 16 = kw.val := by omega
    simp only [h1, h2, mask_word kw kw, if_true]
    refine congrArg p (congrArg₂ ix2 (Fin.ext ?_) (Fin.ext ?_))
    · exact congrArg (· + kw.val) (Nat.mul_comm _ _)
    · exact congrArg (· + kw.val) (Nat.mul_comm _ _)
  · intro k _ hk
    rw [row_word, column_word]
    have h1 : (o.val * 16 + k.val) % 16 = k.val := by omega
    have h2 : (q.val * 16 + kw.val) % 16 = kw.val := by omega
    simp only [h1, h2, mask_word k kw, if_neg hk]
    rfl
  · intro h
    exact absurd (Finset.mem_univ kw) h

theorem product (x : S1x64x48x320.Idx → Ideal .f32) (w : S256x1024.Idx → Ideal .bf16) (r : Fin 256) (q : Fin 60) (kw : Fin 16) :
    (k0_pay2 (F := Ideal) x w (ix2 r ⟨16 * q.val + kw.val, by omega⟩) : EReal) = ∑ k : Fin 1024,
      (w (ix2 r k) : EReal) * x (ix4 (0 : Fin 1) ⟨k.val / 16, by omega⟩ ⟨16 * (q.val / 20) + k.val % 16, by omega⟩
        ⟨16 * (q.val % 20) + kw.val, by omega⟩) := by
  pointwise [k0_pay2]
  refine Finset.sum_congr rfl fun k _ => congrArg (w (ix2 r k) * ·) ?_
  split
  · refine congrArg x (congrArg₂ (ix4 _ _) (Fin.ext ?_) (Fin.ext ?_))
    · change k.val % 16 = 16 * (q.val / 20) + k.val % 16
      omega
    · change 16 * q.val + kw.val = 16 * (q.val % 20) + kw.val
      omega
  split
  · refine congrArg x (congrArg₂ (ix4 _ _) (Fin.ext ?_) (Fin.ext ?_))
    · change 16 + k.val % 16 = 16 * (q.val / 20) + k.val % 16
      omega
    · change 16 * q.val + kw.val - 320 = 16 * (q.val % 20) + kw.val
      omega
  · refine congrArg x (congrArg₂ (ix4 _ _) (Fin.ext ?_) (Fin.ext ?_))
    · change 32 + k.val % 16 = 16 * (q.val / 20) + k.val % 16
      omega
    · change 16 * q.val + kw.val - 320 - 320 = 16 * (q.val % 20) + kw.val
      omega

/-- The filters as the call reads them. -/
theorem filters_value (w : S16x64x16x16.Idx → Ideal .f32) (o : Fin 16) (kw : Fin 16) (k : Fin 1024) :
    (filters (F := Ideal) w (ix2 ⟨16 * o.val + kw.val, by omega⟩ k) : EReal) =
      w (ix4 o (⟨k.val / 16, by omega⟩ : Fin 64) (⟨k.val % 16, by omega⟩ : Fin 16) kw) := by
  pointwise [filters]

/-- A block of the convolution at a patch and a channel. -/
theorem block_value (x : S1x64x48x320.Idx → Ideal .f32) (w : S256x1024.Idx → Ideal .bf16) (q : Fin 60) (o : Fin 16) :
    (out0_2 (F := Ideal) x w (ix3 (0 : Fin 1) q o) : EReal) = ∑ kw : Fin 16, ∑ k : Fin 1024,
      (w (ix2 ⟨16 * o.val + kw.val, by omega⟩ k) : EReal) *
        x (ix4 (0 : Fin 1) ⟨k.val / 16, by omega⟩ ⟨16 * (q.val / 20) + k.val % 16, by omega⟩
        ⟨16 * (q.val % 20) + kw.val, by omega⟩) := by
  have e : out0_2 (F := Ideal) x w = k0_pay1 (F := Ideal) (k0_pay2 (F := Ideal) x w) k0_pay3 (Scalar.select (Scalar.cmpi .eq 16#32 0#32) 1#32 16#32)
      k0_pay4 k0_pay5 := by
    unfold out0_2
    rw [View.ld_unit_zero (by funext a; fin_cases a <;> rfl), View.ld_unit_zero (by funext a; fin_cases a <;> rfl)]
    refine View.canon_unit_zero ?_ _ _
    funext a
    fin_cases a <;> rfl
  rw [e, masked]
  simp only [product]

/-- The convolution's rows are the patch convolution. -/
theorem rows_value (x : S2x64x240x320.Idx → Ideal .f32) (w : S16x64x16x16.Idx → Ideal .f32) (b : Fin 2) (r : Fin 300) (o : Fin 16) :
    (rows (F := Ideal) x w (ix2 (⟨300 * b.val + r.val, by omega⟩ : Fin 600) o) : EReal) = conv x w b r o := by
  pointwise [rows]
  change out0_2 (imageBlock x _) _ _ = _
  refine (block_value _ _ _ _).trans ?_
  unfold conv
  refine Eq.trans (Finset.sum_congr rfl fun kw _ => Finset.sum_congr rfl fun k _ =>
    congrArg₂ (fun u v : EReal => u * v) (filters_value w o kw k) rfl) ?_
  refine Eq.trans (Finset.sum_congr rfl fun kw _ => sum_blocks 64 16 1024 rfl _
    (fun c kh => ⟨16 * c.val + kh.val, by omega⟩) fun _ _ => rfl) ?_
  rw [Finset.sum_comm]
  refine Finset.sum_congr rfl fun c _ => ?_
  rw [Finset.sum_comm]
  refine Finset.sum_congr rfl fun kh _ => Finset.sum_congr rfl fun kw _ => ?_
  have h1 : (16 * c.val + kh.val) / 16 = c.val := by omega
  have h2 : (16 * c.val + kh.val) % 16 = kh.val := by omega
  refine congrArg₂ (fun u v : EReal => u * v)
    (congrArg w (congrArg₂ (fun u v => ix4 o u v kw) (Fin.ext h1) (Fin.ext h2)))
    (congrArg x (funext fun a => Fin.ext ?_))
  fin_cases a
  · change (300 * b.val + r.val) / 60 / 5 = b.val
    omega
  · exact h1
  · change 48 * ((300 * b.val + r.val) / 60 % 5) + (16 * ((300 * b.val + r.val) % 60 / 20) + (16 * c.val + kh.val) % 16) =
      16 * (r.val / 20) + kh.val
    omega
  · change 16 * ((300 * b.val + r.val) % 60 % 20) + kw.val = 16 * (r.val % 20) + kw.val
    omega

end Cert.KernelIdeal.Conv
-- ==== Proof.Planes.lean ====
/-
  The second call's result, plane by plane: the linear layer over the chosen patches, doubled four times, with the
  position terms added.
-/
module

public import proofs.«01_k».proof.Proof.Select
public import proofs.«01_k».proof.Proof.Interpolate
public import proofs.«01_k».proof.Proof.Conv

@[expose] public section

set_option maxRecDepth 16384

noncomputable section

namespace Cert.KernelIdeal.Planes

open Idealize.ShloMosaic Idealize.SL.Sem Idealize.ShloMosaic.TcCoe Idealize.ShloMosaic.Tactic
open Cert.KernelIdeal.Gen Cert.KernelIdeal.Body Cert.KernelIdeal.Select Cert.KernelIdeal.Feature Cert.KernelIdeal.Table
open Cert.Model Cert.Proof

/-- The linear layer applied to the mean difference from the eight chosen patches. -/
def chosenMean (e : Fin 300 → Fin 16 → EReal) (lw : Fin 16 → Fin 16 → EReal) (lb : Fin 16 → EReal) (r : Fin 300)
    (o : Fin 16) : EReal :=
  ∑ c, ((∑ t, e (sortedFrom (before (gram e r)) (wanted t)) c) * Ideal.ofBits .f32 0x3E000000#32 - e r c) * lw o c + lb o

theorem edge_chosen (e : FVec Ideal S300x16 .f32) (d2 : FVec Ideal S300x300 .f32) (lw : FVec Ideal S16x16 .f32)
    (lb : FVec Ideal S1x16 .f32) (E : Fin 300 → Fin 16 → EReal) (he : ∀ r c, (e (ix2 r c) : EReal) = E r c)
    (hd : ∀ r l, (d2 (ix2 r l) : EReal) = gram E r l) (r : Fin 300) (o : Fin 16)
    (hinj : Function.Injective (gram E r)) :
    (edge (F := Ideal) e (nearSum (F := Ideal) e d2) lw lb (ix2 r o) : EReal) = chosenMean E (matrix lw) (entry lb) r o := by
  have hrow : (fun l => (d2 (ix2 r l) : EReal)) = gram E r := funext fun l => hd r l
  refine (Select.edge_value e _ lw lb r o).trans ?_
  unfold chosenMean
  refine congrArg (fun z : EReal => z + entry lb o) (Finset.sum_congr rfl fun c _ => ?_)
  refine congrArg (fun z : EReal => z * matrix lw o c) ?_
  refine (congrArg (fun z : EReal => z * Ideal.ofBits .f32 0x3E000000#32 - e (ix2 r c))
    ((nearSum_value e d2 r c (by rw [hrow]; exact hinj)).trans ?_)).trans
    (congrArg (fun z : EReal => (∑ t, E (sortedFrom (before (gram E r)) (wanted t)) c) * Ideal.ofBits .f32 0x3E000000#32 - z) (he r c))
  rw [hrow]
  exact Finset.sum_congr rfl fun t _ => he _ c

/-- One image's stored plane. -/
theorem out_chosen (ed : FVec Ideal S300x16 .f32) (f : Fin 15 → Fin 20 → EReal) (hf : ∀ i j, IsReal (f i j)) (o : Fin 16)
    (h : Fin 60) (w : Fin 80) (hed : ∀ i j, (ed (ix2 (cell i j) o) : EReal) = f i j) (uw : FVec Ideal S80x20 .f32)
    (k3 : FVec Ideal S960x240 .f32) (pe : FVec Ideal S960x80 .f32)
    (huw : ∀ w j, (uw (ix2 w j) : EReal) = Ideal.ofBits .f32 (lit0t (w.val * 20 + j.val)))
    (hk3 : ∀ p q, (k3 (ix2 p q) : EReal) = Ideal.ofBits .f32 (BitVec.ofNat 32 (Cert.Lerp.tall (p.val * 240 + q.val))))
    (p : Fin 960) (hp : p.val = 60 * o.val + h.val) :
    (out (F := Ideal) (upWide (F := Ideal) ed uw) k3 pe (ix3 (0 : Fin 1) p w) : EReal) = fourfold f h w + pe (ix2 p w) := by
  refine (out_value _ k3 pe p w).trans (congrArg (fun z : EReal => z + pe (ix2 p w)) ?_)
  refine (Finset.sum_congr rfl fun q _ => congrArg (fun z : EReal => z * upWide (F := Ideal) ed uw (ix2 q w)) (hk3 p q)).trans ?_
  refine (tall_sum o h p hp fun q => upWide (F := Ideal) ed uw (ix2 q w)).trans ?_
  refine Eq.trans (Finset.sum_congr rfl fun n _ => congrArg
    (fun z : EReal => Ideal.ofBits .f32 (BitVec.ofNat 32 (Cert.Lerp.word (Cert.Lerp.sixteenths 15 h.val n.val))) * z) ?_)
    (fourfold_sum f hf h w)
  refine (upWide_value ed uw _ w n o rfl).trans (Finset.sum_congr rfl fun j _ => ?_)
  have hj := j.isLt
  have hw := w.isLt
  rw [hed, huw, wide_word _ (by omega)]
  unfold Cert.Lerp.wide
  rw [show (w.val * 20 + j.val) / 20 = w.val by omega, show (w.val * 20 + j.val) % 20 = j.val by omega]

/-- An array stored in two halves holds each half. -/
theorem two_halves (P : Fin 2 → Vec Ideal S1x960x80 .f32) (b : Fin 2) (p : Fin 960) (w : Fin 80) :
    (View.canon [(⟨r1_7, P 1⟩ : View.Piece (Elt Ideal) S2x960x80 .f32), ⟨r1_6, P 0⟩] (ix3 b p w) : EReal) =
      P b (ix3 (0 : Fin 1) p w) := by
  refine View.canon_apply_of_pieces (fun y : S2x960x80.Idx => P (y 0) (ix3 (0 : Fin 1) (y 1) (y 2))) _ ?_ _ (cover1_12 _ _ _)
  intro q hq x
  rcases List.mem_cons.mp hq with rfl | hq
  · refine (congr (congrArg P ?_) ?_).symm
    · refine Fin.ext ?_
      have h : (x 0).val = 0 := Nat.lt_one_iff.mp (x 0).isLt
      change 1 + 1 * (x 0).val = 1
      rw [h]
    · funext a
      refine Fin.ext ?_
      fin_cases a
      · exact (Nat.lt_one_iff.mp (x 0).isLt).symm
      · change 0 + 1 * (x 1).val = (x 1).val
        omega
      · change 0 + 1 * (x 2).val = (x 2).val
        omega
  · rw [List.mem_singleton] at hq
    subst hq
    refine (congr (congrArg P ?_) ?_).symm
    · refine Fin.ext ?_
      have h : (x 0).val = 0 := Nat.lt_one_iff.mp (x 0).isLt
      change 0 + 1 * (x 0).val = 0
      rw [h]
    · funext a
      refine Fin.ext ?_
      fin_cases a
      · exact (Nat.lt_one_iff.mp (x 0).isLt).symm
      · change 0 + 1 * (x 1).val = (x 1).val
        omega
      · change 0 + 1 * (x 2).val = (x 2).val
        omega

end Cert.KernelIdeal.Planes
-- ==== Proof.Nearest.lean ====
/-
  The nearest patches over real features: the squared distances written out with inner products order the patches as
  the distances do, and the linear layer commutes with the mean over the chosen patches.
-/
module

public import proofs.«01_k».proof.Proof.Real
public import proofs.«01_k».proof.Proof.Sort

@[expose] public section

set_option maxRecDepth 16384

noncomputable section

namespace Cert.Model

open Idealize.ShloMosaic

/-- The distance of two patches. -/
def apart (e : Fin 300 → Fin 16 → EReal) (r l : Fin 300) : EReal :=
  Ideal.sqrt (∑ c, (e r c - e l c) * (e r c - e l c))

variable (e : Fin 300 → Fin 16 → EReal) (he : ∀ r c, IsReal (e r c))

include he in
/-- Both are given by one nonnegative real number. -/
theorem gram_apart (r : Fin 300) : ∃ q : Fin 300 → ℝ, (∀ l, 0 ≤ q l) ∧ (∀ l, gram e r l = (q l : EReal))
    ∧ ∀ l, apart e r l = (Real.sqrt (q l) : EReal) := by
  choose f hf using he
  refine ⟨fun l => ∑ c, (f r c - f l c) * (f r c - f l c), fun l => Finset.sum_nonneg fun _ _ => mul_self_nonneg _, fun l => ?_, fun l => ?_⟩
  · have h : ∀ a b, ∑ c, e a c * e b c = ((∑ c, f a c * f b c : ℝ) : EReal) := fun a b => by
      rw [← coe_sum]; exact Finset.sum_congr rfl fun c _ => by rw [hf, hf, EReal.coe_mul]
    unfold gram
    rw [h, h, h, ← EReal.coe_add, ← EReal.coe_sub, ← EReal.coe_sub, EReal.coe_eq_coe_iff, ← Finset.sum_add_distrib,
      ← Finset.sum_sub_distrib, ← Finset.sum_sub_distrib]
    exact Finset.sum_congr rfl fun c _ => by ring
  · have h : ∑ c, (e r c - e l c) * (e r c - e l c) = ((∑ c, (f r c - f l c) * (f r c - f l c) : ℝ) : EReal) := by
      rw [← coe_sum]; exact Finset.sum_congr rfl fun c _ => by rw [hf, hf, EReal.coe_mul, EReal.coe_sub]
    unfold apart
    rw [h]
    exact if_neg (not_lt.mpr (Finset.sum_nonneg fun _ _ => mul_self_nonneg _))

include he in
theorem gram_before (r : Fin 300) : Cert.Proof.before (gram e r) = Cert.Proof.before (apart e r) := by
  obtain ⟨q, h0, hg, ha⟩ := gram_apart e he r
  funext a b
  unfold Cert.Proof.before
  rw [hg, hg, ha, ha]
  simp only [EReal.coe_lt_coe_iff, Real.sqrt_lt_sqrt_iff (h0 _)]

include he in
theorem gram_injective (r : Fin 300) (h : Function.Injective (apart e r)) : Function.Injective (gram e r) := by
  obtain ⟨q, h0, hg, ha⟩ := gram_apart e he r
  intro a b hab
  rw [hg, hg, EReal.coe_eq_coe_iff] at hab
  refine h ?_
  rw [ha, ha, hab]

include he in
/-- A row of the linear layer, applied to the mean difference or averaged over the differences. -/
theorem edge_mean (σ : Fin 8 → Fin 300) (r : Fin 300) (w : Fin 16 → EReal) (hw : ∀ c, IsReal (w c)) (b : EReal) (hb : IsReal b) :
    ∑ c, ((∑ t, e (σ t) c) * Ideal.ofBits .f32 0x3E000000#32 - e r c) * w c + b
      = Ideal.div (∑ t, ((∑ c, (e (σ t) c - e r c) * w c) + b)) (Ideal.ofBits .f32 0x41000000#32) := by
  choose f hf using he
  choose u hu using hw
  obtain ⟨b, rfl⟩ := hb
  have h1 : ∀ c, ((∑ t, e (σ t) c) * Ideal.ofBits .f32 0x3E000000#32 - e r c) * w c
      = ((((∑ t, f (σ t) c) * (1 / 8) - f r c) * u c : ℝ) : EReal) := fun c => by
    rw [Finset.sum_congr rfl fun t _ => hf (σ t) c, coe_sum, Words.eighth, hf, hu, ← EReal.coe_mul, ← EReal.coe_sub, ← EReal.coe_mul]
  have h2 : ∀ t, (∑ c, (e (σ t) c - e r c) * w c) + (b : EReal)
      = (((∑ c, (f (σ t) c - f r c) * u c) + b : ℝ) : EReal) := fun t => by
    rw [EReal.coe_add, ← coe_sum]
    refine congrArg (fun z : EReal => z + (b : EReal)) (Finset.sum_congr rfl fun c _ => ?_)
    rw [hf, hf, hu, ← EReal.coe_sub, ← EReal.coe_mul]
  rw [Finset.sum_congr rfl fun c _ => h1 c, coe_sum, Finset.sum_congr rfl fun t _ => h2 t, coe_sum, Words.eight,
    Words.div_real _ _ (by norm_num), ← EReal.coe_add, EReal.coe_eq_coe_iff, Finset.sum_add_distrib, Finset.sum_comm,
    Finset.sum_const, Finset.card_univ, Fintype.card_fin, add_div, Finset.sum_div]
  congr 1
  · refine Finset.sum_congr rfl fun c _ => ?_
    rw [← Finset.sum_mul, Finset.sum_sub_distrib, Finset.sum_const, Finset.card_univ, Fintype.card_fin]
    simp only [nsmul_eq_mul]
    push_cast
    ring
  · simp only [nsmul_eq_mul]
    push_cast
    ring

end Cert.Model
-- ==== Proof.Answer.lean ====
/-
  The program's result as mathematics of its ten arguments.
-/
module

public import proofs.«01_k».proof.Proof.Planes
public import proofs.«01_k».proof.Proof.Nearest

@[expose] public section

set_option maxRecDepth 16384

noncomputable section

namespace Cert.Model

open Idealize.ShloMosaic

/-- A vector's entries. -/
def entries (a : (⟨1, ![16]⟩ : Shape).Idx → EReal) (c : Fin 16) : EReal := a (ix1 c)

/-- The attended features of an image from the arguments. -/
def features (a0 : (⟨4, ![2, 64, 240, 320]⟩ : Shape).Idx → EReal) (a1 : (⟨4, ![16, 64, 16, 16]⟩ : Shape).Idx → EReal)
    (a2 a3 a4 : (⟨1, ![16]⟩ : Shape).Idx → EReal) (a5 : (⟨4, ![16, 16, 1, 1]⟩ : Shape).Idx → EReal)
    (a6 a7 : (⟨1, ![16]⟩ : Shape).Idx → EReal) (b : Fin 2) : Fin 300 → Fin 16 → EReal :=
  attended (fun b r c => conv a0 a1 b r c + entries a2 c) (entries a3) (entries a4)
    (fun o c => a5 (ix4 o c (0 : Fin 1) (0 : Fin 1))) (entries a6) (entries a7) b

theorem isReal_features (a0 : (⟨4, ![2, 64, 240, 320]⟩ : Shape).Idx → EReal) (a1 : (⟨4, ![16, 64, 16, 16]⟩ : Shape).Idx → EReal)
    (a2 a3 a4 : (⟨1, ![16]⟩ : Shape).Idx → EReal) (a5 : (⟨4, ![16, 16, 1, 1]⟩ : Shape).Idx → EReal)
    (a6 a7 : (⟨1, ![16]⟩ : Shape).Idx → EReal) (h0 : ∀ i, IsReal (a0 i)) (h1 : ∀ i, IsReal (a1 i)) (h2 : ∀ i, IsReal (a2 i))
    (h3 : ∀ i, IsReal (a3 i)) (h4 : ∀ i, IsReal (a4 i)) (h5 : ∀ i, IsReal (a5 i)) (h6 : ∀ i, IsReal (a6 i))
    (h7 : ∀ i, IsReal (a7 i)) (b : Fin 2) (r : Fin 300) (c : Fin 16) : IsReal (features a0 a1 a2 a3 a4 a5 a6 a7 b r c) :=
  isReal_attended _ _ _ _ _ _ (fun b r c => (isReal_conv a0 a1 h0 h1 b r c).add (h2 _)) (fun _ => h3 _) (fun _ => h4 _)
    (fun _ _ => h5 _) (fun _ => h6 _) (fun _ => h7 _) b r c

end Cert.Model

namespace Cert.KernelIdeal.Planes

open Idealize.ShloMosaic Idealize.SL.Sem Idealize.ShloMosaic.TcCoe Idealize.ShloMosaic.Tactic
open Cert.KernelIdeal.Gen Cert.KernelIdeal.Body Cert.KernelIdeal.Select Cert.KernelIdeal.Feature Cert.KernelIdeal.Table
open Cert.KernelIdeal.Result Cert.Model Cert.Proof

theorem entry_row (a : S16.Idx → Ideal .f32) : entry (row (F := Ideal) a) = entries a := by
  funext c
  unfold entry entries
  pointwise [row]

theorem start_rows (a0 : S2x64x240x320.Idx → Ideal .f32) (a1 : S16x64x16x16.Idx → Ideal .f32) (a2 : S16.Idx → Ideal .f32) :
    start (rows (F := Ideal) a0 a1) (row (F := Ideal) a2) = fun b r c => conv a0 a1 b r c + entries a2 c := by
  funext b r c
  exact (congrArg (fun z : EReal => z + entry (row (F := Ideal) a2) c) (Conv.rows_value a0 a1 b r c)).trans
    (congrArg (fun z : EReal => conv a0 a1 b r c + z) (congrFun (entry_row a2) c))

theorem matrix_cast (a5 : S16x16x1x1.Idx → Ideal .f32) :
    matrix (shapeCast S16x16 a5 shapeCasts_S16x16x1x1_S16x16) = fun o c => a5 (ix4 o c (0 : Fin 1) (0 : Fin 1)) := by
  funext o c
  unfold matrix
  pointwise

section Whole
variable (x0 : Vec Ideal S600x16 .f32) (x1 x2 x3 : Vec Ideal S1x16 .f32) (x4 : Vec Ideal S16x16 .f32)
  (x5 x6 : Vec Ideal S1x16 .f32) (x7 : Vec Ideal S16x16 .f32) (x8 : Vec Ideal S1x16 .f32)
  (x9 : Vec Ideal S80x20 .f32) (x10 : Vec Ideal S960x240 .f32) (x11 : Vec Ideal S960x80 .f32)

/-- The call's result from its operands. -/
theorem call_value (E : Fin 2 → Fin 300 → Fin 16 → EReal)
    (hE : attended (start x0 x1) (entry x2) (entry x3) (matrix x4) (entry x5) (entry x6) = E)
    (hinj : ∀ b r, Function.Injective (gram (E b) r))
    (hf : ∀ b r o, IsReal (chosenMean (E b) (matrix x7) (entry x8) r o))
    (huw : ∀ (w : Fin 80) (j : Fin 20), (x9 (ix2 w j) : EReal) = Ideal.ofBits .f32 (lit0t (w.val * 20 + j.val)))
    (hk3 : ∀ (p : Fin 960) (q : Fin 240), (x10 (ix2 p q) : EReal) = Ideal.ofBits .f32 (BitVec.ofNat 32 (Cert.Lerp.tall (p.val * 240 + q.val))))
    (b : Fin 2) (o : Fin 16) (h : Fin 60) (w : Fin 80) (p : Fin 960) (hp : p.val = 60 * o.val + h.val) :
    (out1_12 x0 x1 x2 x3 x4 x5 x6 x7 x8 x9 x10 x11 (ix3 b p w) : EReal) =
      fourfold (fun i j => chosenMean (E b) (matrix x7) (entry x8) (cell i j) o) h w + x11 (ix2 p w) := by
  subst hE
  rw [stores, load_wide, load_tall, load_plane]
  refine (two_halves ![out (upWide (k1_pay140 x0 x1 x2 x3 x4 x5 x6 x7 x8 x9 x10 x11) x9) x10 x11,
    out (upWide (k1_pay145 x0 x1 x2 x3 x4 x5 x6 x7 x8 x9 x10 x11) x9) x10 x11] b p w).trans ?_
  have hcase : b = 0 ∨ b = 1 := by fin_cases b <;> simp
  rcases hcase with rfl | rfl
  · refine out_chosen (k1_pay140 x0 x1 x2 x3 x4 x5 x6 x7 x8 x9 x10 x11) _ (fun i j => hf 0 _ o) o h w (fun i j => ?_)
      x9 x10 x11 huw hk3 p hp
    rw [edge_first, load_square, load_row]
    have he : (fun r c => (k1_pay122 x0 x1 x2 x3 x4 x5 x6 x7 x8 x9 x10 x11 (ix2 r c) : EReal)) = _ :=
      funext fun r => funext fun c => attended_zero x0 x1 x2 x3 x4 x5 x6 x7 x8 x9 x10 x11 r c
    exact edge_chosen _ _ x7 x8 _ (attended_zero x0 x1 x2 x3 x4 x5 x6 x7 x8 x9 x10 x11)
      (fun r l => (gram_zero x0 x1 x2 x3 x4 x5 x6 x7 x8 x9 x10 x11 r l).trans (by rw [he])) _ o (hinj 0 _)
  · refine out_chosen (k1_pay145 x0 x1 x2 x3 x4 x5 x6 x7 x8 x9 x10 x11) _ (fun i j => hf 1 _ o) o h w (fun i j => ?_)
      x9 x10 x11 huw hk3 p hp
    rw [edge_second, load_square, load_row]
    have he : (fun r c => (k1_pay141 x0 x1 x2 x3 x4 x5 x6 x7 x8 x9 x10 x11 (ix2 r c) : EReal)) = _ :=
      funext fun r => funext fun c => attended_one x0 x1 x2 x3 x4 x5 x6 x7 x8 x9 x10 x11 r c
    exact edge_chosen _ _ x7 x8 _ (attended_one x0 x1 x2 x3 x4 x5 x6 x7 x8 x9 x10 x11)
      (fun r l => (gram_one x0 x1 x2 x3 x4 x5 x6 x7 x8 x9 x10 x11 r l).trans (by rw [he])) _ o (hinj 1 _)

end Whole

theorem wide_lit (i : Fin 1600) (k : ℕ) (h : i.val = k) : Ideal.ofBits .f32 (lit0 i) = Ideal.ofBits .f32 (lit0t k) := by
  cases i; cases h; rfl
theorem steep_lit (i : Fin 900) (k : ℕ) (h : i.val = k) : Ideal.ofBits .f32 (lit1 i) = Ideal.ofBits .f32 (lit1t k) := by
  cases i; cases h; rfl
theorem position_lit (i : Fin 76800) (k : ℕ) (h : i.val = k) : Ideal.ofBits .f32 (lit2 i) = Ideal.ofBits .f32 (lit2t k) := by
  cases i; cases h; rfl

/-- The 80 by 20 table as the call reads it. -/
def wideTable : Vec Ideal S80x20 .f32 := fun i => FloatOps.ofBits (F := Ideal) .f32 (lit0 (S80x20.rowMajor i))
/-- The position terms as the call reads them. -/
def positionTable : Vec Ideal S960x80 .f32 := fun i => FloatOps.ofBits (F := Ideal) .f32 (lit2 (S960x80.rowMajor i))

theorem wide_at (w : Fin 80) (j : Fin 20) : (wideTable (ix2 w j) : EReal) = Ideal.ofBits .f32 (lit0t (w.val * 20 + j.val)) :=
  wide_lit _ _ (Shape.rowMajor_val_two (ix2 w j))

/-- The 960 by 240 table entry by entry. -/
theorem tall_at (p : Fin 960) (q : Fin 240) :
    (tallTable (F := Ideal) (ix2 p q) : EReal) = Ideal.ofBits .f32 (BitVec.ofNat 32 (Cert.Lerp.tall (p.val * 240 + q.val))) := by
  pointwise [tallTable, tallOf]
  have hp := p.isLt
  have hq := q.isLt
  unfold Cert.Lerp.tall
  rw [show (p.val * 240 + q.val) % 16 = q.val % 16 by omega, show (p.val * 240 + q.val) / 14400 = p.val / 60 by omega,
    show (p.val * 240 + q.val) / 240 % 60 = p.val % 60 by omega, show (p.val * 240 + q.val) % 240 / 16 = q.val / 16 by omega,
    show IntOp.addi (BitVec.ofNat 32 (p.val / 60)) 0#32 = BitVec.ofNat 32 (p.val / 60) from BitVec.add_zero _,
    WordCmp.cmpi_eq_ofNat (by omega) (by omega), WordCmp.select_ofBool]
  by_cases h : q.val % 16 = p.val / 60
  · rw [if_pos h, if_pos (decide_eq_true h.symm)]
    refine (steep_lit _ (p.val % 60 * 15 + q.val / 16) (Shape.rowMajor_val_two _)).trans ?_
    rw [steep_word _ (by omega)]
    unfold Cert.Lerp.steep
    rw [show (p.val % 60 * 15 + q.val / 16) / 15 = p.val % 60 by omega,
      show (p.val % 60 * 15 + q.val / 16) % 15 = q.val / 16 by omega]
  · rw [if_neg h, if_neg (fun e => h (of_decide_eq_true e).symm)]
    exact Ideal.ofBits_zero_f32.symm

theorem position_at (p : Fin 960) (w : Fin 80) :
    (positionTable (ix2 p w) : EReal) = Ideal.ofBits .f32 (lit2t (p.val * 80 + w.val)) :=
  position_lit _ _ (Shape.rowMajor_val_two (ix2 p w))

/-- The result at an image, a channel and a position. -/
theorem planes_value (a0 : S2x64x240x320.Idx → Ideal .f32) (a1 : S16x64x16x16.Idx → Ideal .f32) (a2 a3 a4 : S16.Idx → Ideal .f32)
    (a5 : S16x16x1x1.Idx → Ideal .f32) (a6 a7 : S16.Idx → Ideal .f32) (a8 : S16x16.Idx → Ideal .f32) (a9 : S16.Idx → Ideal .f32)
    (hreal : ∀ b r c, IsReal (features a0 a1 a2 a3 a4 a5 a6 a7 b r c)) (h8 : ∀ i, IsReal (a8 i)) (h9 : ∀ i, IsReal (a9 i))
    (hinj : ∀ b r, Function.Injective (gram (features a0 a1 a2 a3 a4 a5 a6 a7 b) r))
    (b : Fin 2) (o : Fin 16) (h : Fin 60) (w : Fin 80) (p : Fin 960) (hp : p.val = 60 * o.val + h.val) :
    (planes (F := Ideal) a0 a1 a2 a3 a4 a5 a6 a7 a8 a9 (ix3 b p w) : EReal) =
      fourfold (fun i j => chosenMean (features a0 a1 a2 a3 a4 a5 a6 a7 b) (matrix a8) (entries a9) (cell i j) o) h w +
        Ideal.ofBits .f32 (lit2t (p.val * 80 + w.val)) := by
  have hE : attended (start (rows (F := Ideal) a0 a1) (row (F := Ideal) a2)) (entry (row (F := Ideal) a3))
      (entry (row (F := Ideal) a4)) (matrix (shapeCast S16x16 a5 shapeCasts_S16x16x1x1_S16x16))
      (entry (row (F := Ideal) a6)) (entry (row (F := Ideal) a7)) = features a0 a1 a2 a3 a4 a5 a6 a7 := by
    rw [start_rows, entry_row, entry_row, entry_row, entry_row, matrix_cast]
    rfl
  have hf : ∀ (b : Fin 2) (r : Fin 300) (o : Fin 16),
      IsReal (chosenMean (features a0 a1 a2 a3 a4 a5 a6 a7 b) (matrix a8) (entry (row (F := Ideal) a9)) r o) := fun b r o => by
    rw [entry_row]
    exact (isReal_sum fun c =>
      ((((isReal_sum fun t => hreal _ _ _).mul ⟨_, Words.eighth⟩).sub (hreal _ _ _)).mul (h8 _))).add (h9 _)
  rw [← entry_row a9, ← position_at p w]
  exact call_value (rows (F := Ideal) a0 a1) (row (F := Ideal) a2) (row (F := Ideal) a3) (row (F := Ideal) a4)
    (shapeCast S16x16 a5 shapeCasts_S16x16x1x1_S16x16) (row (F := Ideal) a6) (row (F := Ideal) a7) a8 (row (F := Ideal) a9)
    wideTable (tallTable (F := Ideal)) positionTable _ hE hinj hf wide_at tall_at b o h w p hp

end Cert.KernelIdeal.Planes
-- ==== Proof.RefFeature.lean ====
/-
  What the reference computes up to the attended features.
-/
module

public import proofs.«01_k».proof.Proof.Gen.ReferenceIdeal.Run
public import proofs.«01_k».proof.Proof.Model

@[expose] public section

set_option maxRecDepth 16384

noncomputable section

namespace Cert.ReferenceIdeal.Feature

open Idealize.ShloMosaic Idealize.ShloMosaic.TcCoe Idealize.ShloMosaic.Tactic
open Cert.ReferenceIdeal.Gen Cert.ReferenceIdeal.Value Cert.Model

/-- A position in a box of three axes. -/
def triple {n0 n1 n2 : ℕ} (a : Fin n0) (b : Fin n1) (c : Fin n2) : (Shape.ofList [n0, n1, n2]).Idx :=
  fun p => match p with
    | ⟨0, _⟩ => a
    | ⟨1, _⟩ => b
    | ⟨2, _⟩ => c

/-- A sum over a box of three axes, axis by axis. -/
theorem sum_triple {n0 n1 n2 : ℕ} (f : (Shape.ofList [n0, n1, n2]).Idx → EReal) :
    ∑ k, f k = ∑ a, ∑ b, ∑ c, f (triple a b c) := by
  let e : Fin n0 × Fin n1 × Fin n2 ≃ (Shape.ofList [n0, n1, n2]).Idx :=
    { toFun := fun k => triple k.1 k.2.1 k.2.2
      invFun := fun k => (k ⟨0, (by decide : 0 < 3)⟩, k ⟨1, (by decide : 1 < 3)⟩, k ⟨2, (by decide : 2 < 3)⟩)
      left_inv := fun _ => rfl
      right_inv := fun k => funext fun p => match p with
        | ⟨0, _⟩ => rfl
        | ⟨1, _⟩ => rfl
        | ⟨2, _⟩ => rfl }
  rw [← Fintype.sum_equiv e (fun k => f (triple k.1 k.2.1 k.2.2)) f fun _ => rfl]
  simp only [Fintype.sum_prod_type]

/-- A sum over the first, third and fourth of four axes. -/
theorem sum_023 {n0 n1 n2 n3 : ℕ} (h : (⟨4, ![n0, n1, n2, n3]⟩ : Shape).ReducesTo [0, 2, 3] ⟨1, ![n1]⟩)
    (x : (⟨4, ![n0, n1, n2, n3]⟩ : Shape).Idx → EReal) (v : EReal) (c : Fin n1) :
    Ideal.hostReduceAdd h x v (ix1 c) = v + ∑ a, ∑ i, ∑ j, x (ix4 a c i j) := by
  unfold Ideal.hostReduceAdd
  refine congrArg (v + ·) ?_
  have hd : ∀ i : (⟨4, ![n0, n1, n2, n3]⟩ : Shape).Idx, h.drop i = ix1 c ↔ i 1 = c := by
    intro i
    constructor
    · intro e
      exact Fin.ext (congrArg Fin.val (congrFun e 0) : _)
    · intro e
      funext b
      fin_cases b
      exact Fin.ext (congrArg Fin.val e : _)
  rw [Finset.sum_filter]
  rw [sum_idx4]
  refine Finset.sum_congr rfl fun a _ => ?_
  rw [Finset.sum_eq_single c]
  · refine Finset.sum_congr rfl fun i _ => Finset.sum_congr rfl fun j _ => ?_
    exact if_pos ((hd _).2 rfl)
  · intro c' _ hc
    refine Finset.sum_eq_zero fun i _ => Finset.sum_eq_zero fun j _ => ?_
    exact if_neg fun e => hc ((hd _).1 e)
  · intro hc
    exact absurd (Finset.mem_univ c) hc

variable (V : Valuation τ sig (Elt Ideal))

/-- The image argument. -/
def image : S2x64x240x320.Idx → EReal := V (Proc.devRef .tc main_arg0)
/-- The filters. -/
def filter : S16x64x16x16.Idx → EReal := V (Proc.devRef .tc main_arg1)
/-- The convolution's offsets. -/
def offset (c : Fin 16) : EReal := (V (Proc.devRef .tc main_arg2) : S16.Idx → EReal) (ix1 c)
/-- The first normalisation's scale. -/
def scale (c : Fin 16) : EReal := (V (Proc.devRef .tc main_arg3) : S16.Idx → EReal) (ix1 c)
/-- The first normalisation's shift. -/
def shift (c : Fin 16) : EReal := (V (Proc.devRef .tc main_arg4) : S16.Idx → EReal) (ix1 c)
/-- The attention's matrix. -/
def weight (o c : Fin 16) : EReal := (V (Proc.devRef .tc main_arg5) : S16x16x1x1.Idx → EReal) (ix4 o c (0 : Fin 1) (0 : Fin 1))
/-- The second normalisation's scale. -/
def scale' (c : Fin 16) : EReal := (V (Proc.devRef .tc main_arg6) : S16.Idx → EReal) (ix1 c)
/-- The second normalisation's shift. -/
def shift' (c : Fin 16) : EReal := (V (Proc.devRef .tc main_arg7) : S16.Idx → EReal) (ix1 c)

/-- The convolution with its offset. -/
def start (b : Fin 2) (r : Fin 300) (o : Fin 16) : EReal := conv (image V) (filter V) b r o + offset V o

theorem start_value (b : Fin 2) (c : Fin 16) (i : Fin 15) (j : Fin 20) :
    (res_main_v6 V : S2x16x15x20.Idx → EReal) (ix4 b c i j) = start V b (cell i j) c := by
  pointwise [res_main_v6]
  unfold start
  refine congrArg₂ (· + ·) ?_ rfl
  unfold Ideal.matmul
  rw [zero_add]
  refine (sum_triple (n0 := 64) (n1 := 16) (n2 := 16) _).trans ?_
  unfold conv
  refine Finset.sum_congr rfl fun k _ => Finset.sum_congr rfl fun kh _ => Finset.sum_congr rfl fun kw _ => ?_
  refine congrArg₂ (· * ·) (congrArg (filter V) ?_) ?_
  · funext a
    fin_cases a <;> rfl
  · have e : dot_S16x64x16x16_S2x64x15x16x20x16_S16x2x15x20_123_135_0_024_n_n.rhsIdx (ix4 c b i j) (triple k kh kw)
        = ix6 b k i kh j kw := by
      funext a
      fin_cases a <;> rfl
    refine (congrArg (shapeCast S2x64x15x16x20x16 (image V) shapeCasts_S2x64x240x320_S2x64x15x16x20x16) e).trans ?_
    pointwise
    refine congrArg (image V) ?_
    refine congrArg₂ (ix4 b k) (Fin.ext ?_) (Fin.ext ?_)
    · change i.val * 16 + kh.val = 16 * ((20 * i.val + j.val) / 20) + kh.val
      omega
    · change j.val * 16 + kw.val = 16 * ((20 * i.val + j.val) % 20) + kw.val
      omega

theorem mean_value (c : Fin 16) : (res_main_v10 V : S1x16x1x1.Idx → EReal) (ix4 (0 : Fin 1) c (0 : Fin 1) (0 : Fin 1)) = mean (start V) c := by
  pointwise [res_main_v10]
  rw [sum_023, zero_add]
  unfold mean
  simp only [start_value]
  exact congrArg (Ideal.div · _) (Finset.sum_congr rfl fun b _ => sum_cells fun r => start V b r c)

theorem feature_value (b : Fin 2) (c : Fin 16) (i : Fin 15) (j : Fin 20) :
    (res_main_v31 V : S2x16x15x20.Idx → EReal) (ix4 b c i j) =
      feature (start V) (scale V) (shift V) b (cell i j) c := by
  have hv : Ideal.hostReduceAdd reducesTo_S2x16x15x20_S16_d0_2_3 (mulf (res_main_v12 V) (res_main_v12 V)) 0 (ix1 c) =
      ∑ b, ∑ r, (start V b r c - mean (start V) c) * (start V b r c - mean (start V) c) := by
    rw [sum_023, zero_add]
    refine Finset.sum_congr rfl fun b _ => ?_
    rw [← sum_cells fun r => (start V b r c - mean (start V) c) * (start V b r c - mean (start V) c)]
    refine Finset.sum_congr rfl fun i _ => Finset.sum_congr rfl fun j _ => ?_
    pointwise [res_main_v12]
    rw [start_value, mean_value]
  pointwise [res_main_v31]
  rw [hv, start_value, mean_value]
  rfl

theorem attend_value (b : Fin 2) (o : Fin 16) : (res_main_v38 V : S2x16x1x1.Idx → EReal) (ix4 b o (0 : Fin 1) (0 : Fin 1)) =
    attend (start V) (scale V) (shift V) (weight V) b o := by
  pointwise [res_main_v38]
  unfold Ideal.matmul
  rw [zero_add]
  refine (sum_triple (n0 := 16) (n1 := 1) (n2 := 1) _).trans ?_
  simp only [Fin.sum_univ_one]
  unfold attend
  refine Finset.sum_congr rfl fun c _ => ?_
  refine congrArg₂ (· * ·) (congrArg (V (Proc.devRef .tc main_arg5) : S16x16x1x1.Idx → EReal) ?_) ?_
  · funext a
    fin_cases a <;> rfl
  · have e : dot_S16x16x1x1_S2x16x1x1x1x1_S16x2x1x1_123_135_0_024_n_n.rhsIdx (ix4 o b (0 : Fin 1) (0 : Fin 1)) (triple c (0 : Fin 1) (0 : Fin 1))
        = ix6 b c (0 : Fin 1) (0 : Fin 1) (0 : Fin 1) (0 : Fin 1) := by
      funext a
      fin_cases a <;> rfl
    refine (congrArg (shapeCast S2x16x1x1x1x1 _ shapeCasts_S2x16x1x1_S2x16x1x1x1x1) e).trans ?_
    pointwise
    simp only [feature_value, sum_cells (fun r => feature (start V) (scale V) (shift V) b r c)]
    rfl

theorem attendMean_value (o : Fin 16) : (res_main_v42 V : S1x16x1x1.Idx → EReal) (ix4 (0 : Fin 1) o (0 : Fin 1) (0 : Fin 1)) =
    attendMean (start V) (scale V) (shift V) (weight V) o := by
  pointwise [res_main_v42]
  rw [sum_023, zero_add]
  simp only [Fin.sum_univ_one, attend_value]
  rfl

/-- The reference's attended features. -/
theorem attended_value (b : Fin 2) (r : Fin 300) (c : Fin 16) : (res_main_v72 V : S2x300x16.Idx → EReal) (ix3 b r c) =
    attended (start V) (scale V) (shift V) (weight V) (scale' V) (shift' V) b r c := by
  have hv : Ideal.hostReduceAdd reducesTo_S2x16x1x1_S16_d0_2_3 (mulf (res_main_v44 V) (res_main_v44 V)) 0 (ix1 c) =
      ∑ b, (attend (start V) (scale V) (shift V) (weight V) b c - attendMean (start V) (scale V) (shift V) (weight V) c) *
        (attend (start V) (scale V) (shift V) (weight V) b c - attendMean (start V) (scale V) (shift V) (weight V) c) := by
    rw [sum_023, zero_add]
    simp only [Fin.sum_univ_one]
    refine Finset.sum_congr rfl fun b _ => ?_
    pointwise [res_main_v44]
    rw [attend_value, attendMean_value]
  pointwise [res_main_v72]
  rw [hv, feature_value, attend_value, attendMean_value, cell_split]
  rfl

end Cert.ReferenceIdeal.Feature
-- ==== Proof.Pick.lean ====
/-
  The reference's choice of positions: which position the sorted distances put at a wanted rank, and the features
  gathered there.
-/
module

public import proofs.«01_k».proof.Proof.RefFeature
public import proofs.«01_k».proof.Proof.Sort
public import proofs.«01_k».proof.Proof.Words

@[expose] public section

set_option maxRecDepth 16384

noncomputable section

namespace Cert.ReferenceIdeal.Pick

open Idealize.ShloMosaic Idealize.SL.Sem Idealize.ShloMosaic.Tactic
open Cert.ReferenceIdeal.Gen Cert.ReferenceIdeal.Value Cert.ReferenceIdeal.Feature Cert.Model Cert.Proof

/-- The gather of ranks reads the whole rows at each rank, clamped. -/
theorem gather_ranks {w : ℕ} (x : S2x300x300.Idx → BitVec 32) (idx : IVec S8x1 w) (b : Fin 2) (r : Fin 300) (t : Fin 8) :
    Host.gather gather_S2x300x300_S8x1_S2x300x8_01_2_n_n_2_1_23001 x idx (ix3 b r t) =
      x (ix3 b r (⟨min (idx (ix2 t (0 : Fin 1))).toInt.toNat 299, by omega⟩ : Fin 300)) := by
  set d := gather_S2x300x300_S8x1_S2x300x8_01_2_n_n_2_1_23001 with hd
  have hb : ∀ a, d.batchCoord (ix3 b r t) a = 0 := fun a => GatherDims.batchCoord_eq_zero d _ _ List.not_mem_nil
  unfold Host.gather
  refine congrArg x (funext fun a => Fin.ext ?_)
  change d.start (ix3 b r t) idx a + d.batchCoord (ix3 b r t) a + d.offCoord (ix3 b r t) a = _
  rw [hb, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_neg (show (0 : Fin 3) ∉ d.startIndexMap by decide), dif_pos (show (0 : Fin 3) ∈ d.sKept by decide), Nat.zero_add]
    rfl
  · unfold GatherDims.start GatherDims.offCoord
    rw [dif_neg (show (1 : Fin 3) ∉ d.startIndexMap by decide), dif_pos (show (1 : Fin 3) ∈ d.sKept by decide), Nat.zero_add]
    rfl
  · unfold GatherDims.start GatherDims.offCoord
    rw [dif_pos (show (2 : Fin 3) ∈ d.startIndexMap by decide), dif_neg (show (2 : Fin 3) ∉ d.sKept by decide), Nat.add_zero]
    have hsi : d.siIdx (ix3 b r t) ⟨List.idxOf (2 : Fin 3) d.startIndexMap,
        List.idxOf_lt_length_iff.2 (show (2 : Fin 3) ∈ d.startIndexMap by decide)⟩ = ix2 t (0 : Fin 1) := by
      funext q; refine Fin.ext ?_
      match q with
      | ⟨0, _⟩ => rfl
      | ⟨1, _⟩ => rfl
    rw [hsi]
    rfl

/-- The gather of features reads, at a pair of image and position, that position's features. -/
theorem gather_features {w : ℕ} (x : S2x300x16.Idx → EReal) (idx : IVec S2x300x8x2 w) (b : Fin 2) (r : Fin 300) (t : Fin 8)
    (c : Fin 16) :
    Host.gather gather_S2x300x16_S2x300x8x2_S2x300x8x16_3_01_n_n_01_3_1116 x idx (ix4 b r t c) =
      x (ix3 (⟨min (idx (ix4 b r t (0 : Fin 2))).toInt.toNat 1, by omega⟩ : Fin 2)
        (⟨min (idx (ix4 b r t (1 : Fin 2))).toInt.toNat 299, by omega⟩ : Fin 300) c) := by
  set d := gather_S2x300x16_S2x300x8x2_S2x300x8x16_3_01_n_n_01_3_1116 with hd
  have hb : ∀ a, d.batchCoord (ix4 b r t c) a = 0 := fun a => GatherDims.batchCoord_eq_zero d _ _ List.not_mem_nil
  unfold Host.gather
  refine congrArg x (funext fun a => Fin.ext ?_)
  change d.start (ix4 b r t c) idx a + d.batchCoord (ix4 b r t c) a + d.offCoord (ix4 b r t c) a = _
  rw [hb, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_pos (show (0 : Fin 3) ∈ d.startIndexMap by decide), dif_neg (show (0 : Fin 3) ∉ d.sKept by decide), Nat.add_zero]
    have hsi : d.siIdx (ix4 b r t c) ⟨List.idxOf (0 : Fin 3) d.startIndexMap,
        List.idxOf_lt_length_iff.2 (show (0 : Fin 3) ∈ d.startIndexMap by decide)⟩ = ix4 b r t (0 : Fin 2) := by
      funext q; refine Fin.ext ?_
      match q with
      | ⟨0, _⟩ => rfl
      | ⟨1, _⟩ => rfl
      | ⟨2, _⟩ => rfl
      | ⟨3, _⟩ => rfl
    rw [hsi]
    rfl
  · unfold GatherDims.start GatherDims.offCoord
    rw [dif_pos (show (1 : Fin 3) ∈ d.startIndexMap by decide), dif_neg (show (1 : Fin 3) ∉ d.sKept by decide), Nat.add_zero]
    have hsi : d.siIdx (ix4 b r t c) ⟨List.idxOf (1 : Fin 3) d.startIndexMap,
        List.idxOf_lt_length_iff.2 (show (1 : Fin 3) ∈ d.startIndexMap by decide)⟩ = ix4 b r t (1 : Fin 2) := by
      funext q; refine Fin.ext ?_
      match q with
      | ⟨0, _⟩ => rfl
      | ⟨1, _⟩ => rfl
      | ⟨2, _⟩ => rfl
      | ⟨3, _⟩ => rfl
    rw [hsi]
    rfl
  · unfold GatherDims.start GatherDims.offCoord
    rw [dif_neg (show (2 : Fin 3) ∉ d.startIndexMap by decide), dif_pos (show (2 : Fin 3) ∈ d.sKept by decide), Nat.zero_add]
    rfl

variable (V : Valuation τ sig (Elt Ideal))

theorem small_word (n : ℕ) (h : n < 300) : (BitVec.ofNat 32 n).toInt = n := by
  rw [BitVec.toInt_eq_toNat_of_lt (by rw [BitVec.toNat_ofNat]; omega), BitVec.toNat_ofNat]
  norm_cast
  omega

/-- The eight wanted ranks as words. -/
theorem wanted_word (t : Fin 8) :
    (res_main_v84 V : S8.Idx → BitVec 32) (ix1 t) = BitVec.ofNat 32 ((75 + 150 * t.val) / 4) := by
  pointwise [res_main_v84]
  rw [Words.first_rank, Words.rank_step]
  change Ideal.fptosi 32 (_ + _ * (((BitVec.ofNat 32 t.val).toInt : ℝ) : EReal)) = _
  have hi : ((BitVec.ofNat 32 t.val).toInt : ℝ) = (t.val : ℝ) := by
    rw [small_word t.val (by omega)]; norm_cast
  rw [hi, ← EReal.coe_mul, ← EReal.coe_add]
  have hf : ⌊(75 / 4 : ℝ) + 75 / 2 * (t.val : ℝ)⌋ = (((75 + 150 * t.val) / 4 : ℕ) : ℤ) := by
    fin_cases t <;> (rw [Int.floor_eq_iff]; norm_num)
  change BitVec.ofInt 32 (max _ (min _ (if 0 ≤ (75 / 4 : ℝ) + 75 / 2 * (t.val : ℝ) then ⌊(75 / 4 : ℝ) + 75 / 2 * (t.val : ℝ)⌋
    else ⌈(75 / 4 : ℝ) + 75 / 2 * (t.val : ℝ)⌉))) = _
  rw [if_pos (by positivity), hf]
  fin_cases t <;> rfl

/-- Wrapping a negative index leaves one that is not negative alone. -/
theorem wrap_small (n : ℕ) (h : n < 300) (k : BitVec 32) :
    (if BitVec.ofBool ((BitVec.ofNat 32 n).slt 0#32) = 1#1 then BitVec.ofNat 32 n + k else BitVec.ofNat 32 n) = BitVec.ofNat 32 n := by
  have : (BitVec.ofNat 32 n).slt 0#32 = false := by
    rw [BitVec.slt, small_word n h]
    simp
  rw [this]
  rfl

/-- The position whose distance is put at a wanted rank. -/
theorem picked_word (b : Fin 2) (r : Fin 300) (t : Fin 8) :
    (res_main_v91 V : S2x300x8.Idx → BitVec 32) (ix3 b r t) =
      BitVec.ofNat 32 (sortedFrom (before fun l => ((res_main_v78 V : S2x300x300.Idx → EReal) (ix3 b r l)))
        ⟨(75 + 150 * t.val) / 4, by omega⟩).val := by
  unfold res_main_v91
  refine (gather_ranks _ _ b r t).trans ?_
  refine (topK_index _ _ b r _).trans ?_
  refine congrArg (fun k => BitVec.ofNat 32 (sortedFrom
    (before fun l => ((res_main_v78 V : S2x300x300.Idx → EReal) (ix3 b r l))) k).val) (Fin.ext ?_)
  change min (BitVec.toInt _).toNat 299 = _
  have ht : (75 + 150 * t.val) / 4 < 300 := by omega
  refine (congrArg (fun w : BitVec 32 => min w.toInt.toNat 299) (a₂ := BitVec.ofNat 32 ((75 + 150 * t.val) / 4)) ?_).trans ?_
  · pointwise
    rw [wanted_word]
    exact wrap_small _ ht _
  · change min (BitVec.toInt _).toNat 299 = _
    rw [small_word _ ht]
    exact min_eq_left (by omega)

/-- The position whose distance from `r` is put at the wanted rank `t`. -/
def picked (b : Fin 2) (r : Fin 300) (t : Fin 8) : Fin 300 :=
  sortedFrom (before fun l => ((res_main_v78 V : S2x300x300.Idx → EReal) (ix3 b r l))) ⟨(75 + 150 * t.val) / 4, by omega⟩

/-- The gather of features at an image and a position given as words. -/
theorem gather_at (x : S2x300x16.Idx → EReal) (idx : IVec S2x300x8x2 32) (b : Fin 2) (r : Fin 300) (t : Fin 8)
    (c : Fin 16) (p : Fin 300) (h0 : idx (ix4 b r t (0 : Fin 2)) = BitVec.ofNat 32 b.val)
    (h1 : idx (ix4 b r t (1 : Fin 2)) = BitVec.ofNat 32 p.val) :
    Host.gather gather_S2x300x16_S2x300x8x2_S2x300x8x16_3_01_n_n_01_3_1116 x idx (ix4 b r t c) = x (ix3 b p c) := by
  refine (gather_features x idx b r t c).trans ?_
  have hb : min (idx (ix4 b r t (0 : Fin 2))).toInt.toNat 1 = b.val := by
    rw [h0, small_word _ (by omega)]; omega
  have hp : min (idx (ix4 b r t (1 : Fin 2))).toInt.toNat 299 = p.val := by
    rw [h1, small_word _ (by omega)]; omega
  congr 1
  exact congrArg₂ (fun (u : Fin 2) (v : Fin 300) => ix3 u v c) (Fin.ext hb) (Fin.ext hp)

/-- The reference's attended features. -/
def embedded (b : Fin 2) (r : Fin 300) (c : Fin 16) : EReal := (res_main_v72 V : S2x300x16.Idx → EReal) (ix3 b r c)

/-- The linear layer's matrix. -/
def linear (o c : Fin 16) : EReal := (V (Proc.devRef .tc main_arg8) : S16x16.Idx → EReal) (ix2 o c)

/-- The linear layer's offset. -/
def bias (o : Fin 16) : EReal := (V (Proc.devRef .tc main_arg9) : S16.Idx → EReal) (ix1 o)

/-- The reference's linear layer over the eight differences, averaged. -/
theorem edge_value (b : Fin 2) (o : Fin 16) (i : Fin 15) (j : Fin 20) :
    ((res_main_v123 V : S2x16x15x20.Idx → EReal) (ix4 b o i j) : EReal) =
      Ideal.div (∑ t, ((∑ c, (embedded V b (picked V b (cell i j) t) c - embedded V b (cell i j) c) * linear V o c) +
        bias V o)) (Ideal.ofBits .f32 0x41000000#32) := by
  have hc : (⟨(b.val * 300 + (i.val * 20 + j.val)) % 300, Nat.mod_lt _ (by norm_num)⟩ : Fin 300) = cell i j := by
    refine Fin.ext ?_
    change (b.val * 300 + (i.val * 20 + j.val)) % 300 = 20 * i.val + j.val
    omega
  pointwise [res_main_v123]
  refine congrArg (fun u : EReal => Ideal.div u (Ideal.ofBits .f32 0x41000000#32)) (Finset.sum_congr rfl fun t _ => ?_)
  refine congrArg (fun u : EReal => u + bias V o) (Finset.sum_congr rfl fun c _ => ?_)
  refine congrArg (fun u : EReal => u * linear V o c) ?_
  rw [hc]
  refine congrArg (fun u : EReal => u - embedded V b (cell i j) c) ?_
  refine gather_at _ _ b (cell i j) t c (picked V b (cell i j) t) ?_ ?_
  · pointwise [res_main_v94]
    exact wrap_small _ (by omega) _
  · pointwise
    rw [picked_word]
    exact wrap_small _ (Fin.isLt _) _

/-- The reference's distance. -/
theorem distance_value (b : Fin 2) (r l : Fin 300) :
    ((res_main_v78 V : S2x300x300.Idx → EReal) (ix3 b r l) : EReal) =
      Ideal.sqrt (∑ c, (embedded V b r c - embedded V b l c) * (embedded V b r c - embedded V b l c)) := by
  pointwise [res_main_v78, res_main_v77]
  rfl

end Cert.ReferenceIdeal.Pick
-- ==== Proof.Up.lean ====
/-
  The reference's upsampling, entry by entry.
-/
module

public import proofs.«01_k».proof.Proof.Pick
public import proofs.«01_k».proof.Proof.Double

@[expose] public section

set_option maxRecDepth 16384

noncomputable section

namespace Cert.ReferenceIdeal.Up

open Idealize.ShloMosaic Idealize.SL.Sem Idealize.ShloMosaic.Tactic
open Cert.ReferenceIdeal.Gen Cert.ReferenceIdeal.Value Cert.Lerp

theorem other_low {n m : ℕ} (hm : m = 2 * n) (p : Fin m) (h : p.val % 2 = 0) : (other hm p).val = p.val / 2 - 1 := far_even n p.val h
theorem other_high {n m : ℕ} (hm : m = 2 * n) (p : Fin m) (h : p.val % 2 = 1) (hn : p.val / 2 < n - 1) :
    (other hm p).val = p.val / 2 + 1 := far_odd n p.val h (by omega)
theorem other_end {n m : ℕ} (hm : m = 2 * n) (p : Fin m) (h : p.val % 2 = 1) (hn : ¬p.val / 2 < n - 1) :
    (other hm p).val = p.val / 2 := far_last n p.val h (by omega)

theorem low_entry {n m : ℕ} (hm : m = 2 * n) (p : Fin m) (f : Fin n → EReal) (a : Fin n) (h : p.val % 2 = 0)
    (ha : a.val = p.val / 2 - 1) :
    Ideal.ofBits .f32 0x3E800000#32 * f a + Ideal.ofBits .f32 0x3F400000#32 * f (close hm p) =
      mixed (f (close hm p)) (f (other hm p)) := by
  rw [show a = other hm p from Fin.ext (ha.trans (other_low hm p h).symm)]
  rfl

theorem high_entry {n m : ℕ} (hm : m = 2 * n) (p : Fin m) (f : Fin n → EReal) (a : Fin n) (h : p.val % 2 = 1)
    (ha : p.val / 2 < n - 1 ∧ a.val = 1 + p.val / 2) :
    Ideal.ofBits .f32 0x3F400000#32 * f (close hm p) + Ideal.ofBits .f32 0x3E800000#32 * f a =
      mixed (f (close hm p)) (f (other hm p)) := by
  rw [show a = other hm p from Fin.ext (ha.2.trans ((Nat.add_comm _ _).trans (other_high hm p h ha.1).symm)), add_comm]
  rfl

theorem end_entry {n m : ℕ} (hm : m = 2 * n) (p : Fin m) (f : Fin n → EReal) (a : Fin n) (h : p.val % 2 = 1)
    (hn : ¬p.val / 2 < n - 1) (ha : a.val = p.val / 2) :
    Ideal.ofBits .f32 0x3F400000#32 * f (close hm p) + Ideal.ofBits .f32 0x3E800000#32 * f a =
      mixed (f (close hm p)) (f (other hm p)) := by
  rw [show a = other hm p from Fin.ext (ha.trans (other_end hm p h hn).symm), add_comm]
  rfl

variable (V : Valuation τ sig (Elt Ideal))

/-- The linear layer's map. -/
def map0 (b : Fin 2) (o : Fin 16) (i : Fin 15) (j : Fin 20) : EReal := (res_main_v123 V : S2x16x15x20.Idx → EReal) (ix4 b o i j)
/-- Its rows doubled. -/
def map1 (b : Fin 2) (o : Fin 16) (i : Fin 30) (j : Fin 20) : EReal := (res_main_v143 V : S2x16x30x20.Idx → EReal) (ix4 b o i j)
/-- Its columns doubled. -/
def map2 (b : Fin 2) (o : Fin 16) (i : Fin 30) (j : Fin 40) : EReal := (res_main_v163 V : S2x16x30x40.Idx → EReal) (ix4 b o i j)
/-- Its rows doubled again. -/
def map3 (b : Fin 2) (o : Fin 16) (i : Fin 60) (j : Fin 40) : EReal := (res_main_v183 V : S2x16x60x40.Idx → EReal) (ix4 b o i j)

theorem map1_value (b : Fin 2) (o : Fin 16) (p : Fin 30) (j : Fin 20) :
    map1 V b o p j = mixed (map0 V b o (close (n := 15) rfl p) j) (map0 V b o (other (n := 15) rfl p) j) := by
  unfold map1
  pointwise [res_main_v143]
  by_cases h1 : p.val % 2 < 1
  · rw [dif_pos h1]
    by_cases h2 : p.val / 2 < 1
    · rw [dif_pos h2]
      exact low_entry (n := 15) rfl p (fun i => map0 V b o i j) ⟨p.val / 2, by omega⟩ (by omega) (by change p.val / 2 = _; omega)
    · rw [dif_neg h2]
      exact low_entry (n := 15) rfl p (fun i => map0 V b o i j) ⟨p.val / 2 - 1, by omega⟩ (by omega) rfl
  · rw [dif_neg h1]
    by_cases h2 : p.val / 2 < 14
    · rw [dif_pos h2]
      exact high_entry (n := 15) rfl p (fun i => map0 V b o i j) ⟨1 + p.val / 2, by omega⟩ (by omega) ⟨h2, rfl⟩
    · rw [dif_neg h2]
      exact end_entry (n := 15) rfl p (fun i => map0 V b o i j) ⟨14 + (p.val / 2 - 14), by omega⟩ (by omega) h2
        (by change 14 + (p.val / 2 - 14) = _; omega)

theorem map2_value (b : Fin 2) (o : Fin 16) (i : Fin 30) (p : Fin 40) :
    map2 V b o i p = mixed (map1 V b o i (close (n := 20) rfl p)) (map1 V b o i (other (n := 20) rfl p)) := by
  unfold map2
  pointwise [res_main_v163]
  by_cases h1 : p.val % 2 < 1
  · rw [dif_pos h1]
    by_cases h2 : p.val / 2 < 1
    · rw [dif_pos h2]
      exact low_entry (n := 20) rfl p (fun j => map1 V b o i j) ⟨p.val / 2, by omega⟩ (by omega) (by change p.val / 2 = _; omega)
    · rw [dif_neg h2]
      exact low_entry (n := 20) rfl p (fun j => map1 V b o i j) ⟨p.val / 2 - 1, by omega⟩ (by omega) rfl
  · rw [dif_neg h1]
    by_cases h2 : p.val / 2 < 19
    · rw [dif_pos h2]
      exact high_entry (n := 20) rfl p (fun j => map1 V b o i j) ⟨1 + p.val / 2, by omega⟩ (by omega) ⟨h2, rfl⟩
    · rw [dif_neg h2]
      exact end_entry (n := 20) rfl p (fun j => map1 V b o i j) ⟨19 + (p.val / 2 - 19), by omega⟩ (by omega) h2
        (by change 19 + (p.val / 2 - 19) = _; omega)

theorem map3_value (b : Fin 2) (o : Fin 16) (p : Fin 60) (j : Fin 40) :
    map3 V b o p j = mixed (map2 V b o (close (n := 30) rfl p) j) (map2 V b o (other (n := 30) rfl p) j) := by
  unfold map3
  pointwise [res_main_v183]
  by_cases h1 : p.val % 2 < 1
  · rw [dif_pos h1]
    by_cases h2 : p.val / 2 < 1
    · rw [dif_pos h2]
      exact low_entry (n := 30) rfl p (fun i => map2 V b o i j) ⟨p.val / 2, by omega⟩ (by omega) (by change p.val / 2 = _; omega)
    · rw [dif_neg h2]
      exact low_entry (n := 30) rfl p (fun i => map2 V b o i j) ⟨p.val / 2 - 1, by omega⟩ (by omega) rfl
  · rw [dif_neg h1]
    by_cases h2 : p.val / 2 < 29
    · rw [dif_pos h2]
      exact high_entry (n := 30) rfl p (fun i => map2 V b o i j) ⟨1 + p.val / 2, by omega⟩ (by omega) ⟨h2, rfl⟩
    · rw [dif_neg h2]
      exact end_entry (n := 30) rfl p (fun i => map2 V b o i j) ⟨29 + (p.val / 2 - 29), by omega⟩ (by omega) h2
        (by change 29 + (p.val / 2 - 29) = _; omega)

end Cert.ReferenceIdeal.Up
-- ==== Proof.Outcome.lean ====
/-
  The reference's result, entry by entry.
-/
module

public import proofs.«01_k».proof.Proof.Up
public import proofs.«01_k».proof.Proof.RefFeature

@[expose] public section

set_option maxRecDepth 16384

noncomputable section

namespace Cert.ReferenceIdeal.Up

open Idealize.ShloMosaic Idealize.SL.Sem Idealize.ShloMosaic.TcCoe Idealize.ShloMosaic.Tactic
open Cert.ReferenceIdeal.Gen Cert.ReferenceIdeal.Value Cert.Lerp

/-- The result's entries: the columns doubled again, and the position terms. -/
theorem last_value (V : Valuation τ sig (Elt Ideal)) (b : Fin 2) (o : Fin 16) (h : Fin 60) (p : Fin 80) :
    ((val5 V (Proc.devRef .tc main_v205) : S2x16x60x80.Idx → EReal) (ix4 b o h p) : EReal) =
      mixed (map3 V b o h (close (n := 40) rfl p)) (map3 V b o h (other (n := 40) rfl p)) +
        Ideal.ofBits .f32 (lit0 (S16x60x80.rowMajor (ix3 o h p))) := by
  refine (congrFun (val5_main_v205 V) (ix4 b o h p)).trans ?_
  pointwise
  refine congrArg (fun z : EReal => z + Ideal.ofBits .f32 (lit0 (S16x60x80.rowMajor (ix3 o h p)))) ?_
  by_cases h1 : p.val % 2 < 1
  · rw [dif_pos h1]
    by_cases h2 : p.val / 2 < 1
    · rw [dif_pos h2]
      exact low_entry (n := 40) rfl p (fun j => map3 V b o h j) ⟨p.val / 2, by omega⟩ (by omega) (by change p.val / 2 = _; omega)
    · rw [dif_neg h2]
      exact low_entry (n := 40) rfl p (fun j => map3 V b o h j) ⟨p.val / 2 - 1, by omega⟩ (by omega) rfl
  · rw [dif_neg h1]
    by_cases h2 : p.val / 2 < 39
    · rw [dif_pos h2]
      exact high_entry (n := 40) rfl p (fun j => map3 V b o h j) ⟨1 + p.val / 2, by omega⟩ (by omega) ⟨h2, rfl⟩
    · rw [dif_neg h2]
      exact end_entry (n := 40) rfl p (fun j => map3 V b o h j) ⟨39 + (p.val / 2 - 39), by omega⟩ (by omega) h2
        (by change 39 + (p.val / 2 - 39) = _; omega)

end Cert.ReferenceIdeal.Up
-- ==== Proof.Precondition.lean ====
/-
  What the precondition says: every argument is finite, and no patch is equally far from two others.
-/
module

public import proofs.«01_k».proof.Pre_distinct_distances
public import proofs.«01_k».proof.Proof.Gen.ReferenceIdeal.Run
public import proofs.«01_k».proof.Proof.Real
public import Idealize.ShloMosaic.Lib.ReduceAll
public import Idealize.ShloMosaic.Lib.Pointwise

@[expose] public section

set_option maxRecDepth 16384

noncomputable section

namespace Cert.Pre_distinct_distances

open Idealize.ShloMosaic Idealize.SL.Sem Idealize.ShloMosaic.Tactic
open Cert.Model

/-- The side conditions of the precondition. -/
theorem facts : Facts := by constructor <;> decide

section
variable [Facts]
open Facts

/-- Whether every entry is finite. -/
def small {s : Shape} {axes : List (Fin s.rank)} (x : FVec Ideal s .f32) (hb : S_.BroadcastsInDim s (![] : Fin 0 → Fin s.rank))
    (hr : s.ReducesTo axes S_) : IVec S_ 1 :=
  Host.reduce IntOp.andi (cmpf .olt (Host.absf x) (broadcastInDim s ![] hb (constant S_ .f32 0x7F800000#32)))
    (constantI S_ 1 1#1) hr h_S_

instance : Subsingleton S_.Idx := ⟨fun a b => funext fun d => d.elim0⟩

/-- The word of +∞. -/
theorem infinity : Ideal.ofBits .f32 0x7F800000#32 = ⊤ := by
  simp [Ideal.ofBits, Ideal.ieee]

/-- Where every entry is finite, each is a real number. -/
theorem small_real {s : Shape} {axes : List (Fin s.rank)} (x : FVec Ideal s .f32)
    (hb : S_.BroadcastsInDim s (![] : Fin 0 → Fin s.rank)) (hr : s.ReducesTo axes S_) (j : S_.Idx) (h : small x hb hr j = 1#1)
    (i : s.Idx) : IsReal (x i) := by
  have e := Host.reduce_andi_all _ _ _ _ _ h i
  change Ideal.cmp .olt (max (x i) (-(x i))) (Ideal.ofBits .f32 0x7F800000#32) = 1#1 at e
  rw [infinity] at e
  have hlt : max (x i) (-(x i)) < ⊤ := by
    by_contra hn
    simp [Ideal.cmp, hn] at e
  have h1 : (x i : EReal) ≠ ⊤ := fun q => by rw [q] at hlt; simp at hlt
  have h2 : (x i : EReal) ≠ ⊥ := fun q => by rw [q] at hlt; simp at hlt
  exact ⟨(x i : EReal).toReal, (EReal.coe_toReal h1 h2).symm⟩

/-- Whether the ten arguments are finite. -/
def finite (a0 : FVec Ideal S2x64x240x320 .f32) (a1 : FVec Ideal S16x64x16x16 .f32) (a2 a3 a4 : FVec Ideal S16 .f32)
    (a5 : FVec Ideal S16x16x1x1 .f32) (a6 a7 : FVec Ideal S16 .f32) (a8 : FVec Ideal S16x16 .f32) (a9 : FVec Ideal S16 .f32) :
    IVec S_ 1 :=
  andi (andi (andi (andi (andi (andi (andi (andi (andi (andi (constantI S_ 1 1#1)
    (small a0 bcast_S_S2x64x240x320 reducesTo_S2x64x240x320_S_d0_1_2_3))
    (small a1 bcast_S_S16x64x16x16 reducesTo_S16x64x16x16_S_d0_1_2_3))
    (small a2 bcast_S_S16 reducesTo_S16_S_d0)) (small a3 bcast_S_S16 reducesTo_S16_S_d0))
    (small a4 bcast_S_S16 reducesTo_S16_S_d0)) (small a5 bcast_S_S16x16x1x1 reducesTo_S16x16x1x1_S_d0_1_2_3))
    (small a6 bcast_S_S16 reducesTo_S16_S_d0)) (small a7 bcast_S_S16 reducesTo_S16_S_d0))
    (small a8 bcast_S_S16x16 reducesTo_S16x16_S_d0_1)) (small a9 bcast_S_S16 reducesTo_S16_S_d0)

/-- Whether two distances in a row are equal, for every two. -/
def ties (d : FVec Ideal S2x300x300 .f32) : IVec S2x300x300x300 1 :=
  cmpf .oeq (broadcastInDim S2x300x300x300 ![0, 1, 2, 3] bcast_S2x300x300x1_S2x300x300x300_0_1_2_3
      (broadcastInDim S2x300x300x1 ![0, 1, 2] bcast_S2x300x300_S2x300x300x1_0_1_2 d))
    (broadcastInDim S2x300x300x300 ![0, 1, 2, 3] bcast_S2x300x1x300_S2x300x300x300_0_1_2_3
      (broadcastInDim S2x300x1x300 ![0, 1, 3] bcast_S2x300x300_S2x300x1x300_0_1_3 d))

/-- The precondition starts with the finiteness of the arguments. -/
theorem fn_head (a0 : FVec Ideal S2x64x240x320 .f32) (a1 : FVec Ideal S16x64x16x16 .f32) (a2 a3 a4 : FVec Ideal S16 .f32)
    (a5 : FVec Ideal S16x16x1x1 .f32) (a6 a7 : FVec Ideal S16 .f32) (a8 : FVec Ideal S16x16 .f32) (a9 : FVec Ideal S16 .f32) :
    fn a0 a1 a2 a3 a4 a5 a6 a7 a8 a9 = fn_part3 a1 a2 a3 a4 a5 a6 a7 (finite a0 a1 a2 a3 a4 a5 a6 a7 a8 a9)
      (shapeCast S2x64x15x16x20x16 a0 shapeCasts_S2x64x240x320_S2x64x15x16x20x16) := rfl

/-- Where the arguments are finite, their entries are real numbers. -/
theorem finite_real (a0 : FVec Ideal S2x64x240x320 .f32) (a1 : FVec Ideal S16x64x16x16 .f32) (a2 a3 a4 : FVec Ideal S16 .f32)
    (a5 : FVec Ideal S16x16x1x1 .f32) (a6 a7 : FVec Ideal S16 .f32) (a8 : FVec Ideal S16x16 .f32) (a9 : FVec Ideal S16 .f32)
    (j : S_.Idx) (h : finite a0 a1 a2 a3 a4 a5 a6 a7 a8 a9 j = 1#1) :
    (∀ i, IsReal (a0 i)) ∧ (∀ i, IsReal (a1 i)) ∧ (∀ i, IsReal (a2 i)) ∧ (∀ i, IsReal (a3 i)) ∧ (∀ i, IsReal (a4 i)) ∧
      (∀ i, IsReal (a5 i)) ∧ (∀ i, IsReal (a6 i)) ∧ (∀ i, IsReal (a7 i)) ∧ (∀ i, IsReal (a8 i)) ∧ ∀ i, IsReal (a9 i) := by
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨_, h0⟩ := IntOp.andi_eq_one.1 h
  exact ⟨small_real _ _ _ j h0, small_real _ _ _ j h1, small_real _ _ _ j h2, small_real _ _ _ j h3, small_real _ _ _ j h4,
    small_real _ _ _ j h5, small_real _ _ _ j h6, small_real _ _ _ j h7, small_real _ _ _ j h8, small_real _ _ _ j h9⟩

/-- Where no two distances in a row are equal, each row is injective. -/
theorem ties_none (f : IVec S_ 1) (d : FVec Ideal S2x300x300 .f32) (j : S_.Idx) (h : fn_part7 (F := Ideal) f (ties d) j = 1#1) :
    f j = 1#1 ∧ ∀ (b : Fin 2) (r : Fin 300), Function.Injective fun l => (d (ix3 b r l) : EReal) := by
  obtain ⟨h1, h2⟩ := IntOp.andi_eq_one.1 h
  refine ⟨h1, fun b r k l hkl => ?_⟩
  have e := Host.reduce_andi_all _ _ _ _ _ h2 (ix4 b r k l)
  rcases IntOp.ori_eq_one.1 e with e | e
  · exfalso
    pointwise [ties] at e
    rw [show d (ix3 b r k) = d (ix3 b r l) from hkl] at e
    simp at e
  · pointwise [] at e
    have q := IntOp.cmpi_eq.1 e
    have hk := k.isLt
    have hl := l.isLt
    have q' := congrArg BitVec.toNat q
    simp only [IntOp.addi, BitVec.add_zero, BitVec.toNat_ofNat] at q'
    exact Fin.ext (by omega)

/-- The precondition ends with the distances, which are the ones of the reference. -/
theorem fn_tail (V : Valuation Cert.ReferenceIdeal.τ Cert.ReferenceIdeal.sig (Elt Ideal)) (f : IVec S_ 1) :
    fn_part3 (F := Ideal) (V (Proc.devRef .tc Cert.ReferenceIdeal.main_arg1)) (V (Proc.devRef .tc Cert.ReferenceIdeal.main_arg2))
      (V (Proc.devRef .tc Cert.ReferenceIdeal.main_arg3)) (V (Proc.devRef .tc Cert.ReferenceIdeal.main_arg4))
      (V (Proc.devRef .tc Cert.ReferenceIdeal.main_arg5)) (V (Proc.devRef .tc Cert.ReferenceIdeal.main_arg6))
      (V (Proc.devRef .tc Cert.ReferenceIdeal.main_arg7)) f
      (shapeCast S2x64x15x16x20x16 (V (Proc.devRef .tc Cert.ReferenceIdeal.main_arg0))
        shapeCasts_S2x64x240x320_S2x64x15x16x20x16) =
    fn_part7 (F := Ideal) f (ties (Cert.ReferenceIdeal.Value.res_main_v78 V)) := rfl

/-- What the precondition says of the reference's arguments. -/
theorem decode (V : Valuation Cert.ReferenceIdeal.τ Cert.ReferenceIdeal.sig (Elt Ideal))
    (h : fn (F := Ideal) (V (Proc.devRef .tc Cert.ReferenceIdeal.main_arg0)) (V (Proc.devRef .tc Cert.ReferenceIdeal.main_arg1))
      (V (Proc.devRef .tc Cert.ReferenceIdeal.main_arg2)) (V (Proc.devRef .tc Cert.ReferenceIdeal.main_arg3))
      (V (Proc.devRef .tc Cert.ReferenceIdeal.main_arg4)) (V (Proc.devRef .tc Cert.ReferenceIdeal.main_arg5))
      (V (Proc.devRef .tc Cert.ReferenceIdeal.main_arg6)) (V (Proc.devRef .tc Cert.ReferenceIdeal.main_arg7))
      (V (Proc.devRef .tc Cert.ReferenceIdeal.main_arg8)) (V (Proc.devRef .tc Cert.ReferenceIdeal.main_arg9)) = fun _ => 1#1) :
    ((∀ b r, Function.Injective fun l => (Cert.ReferenceIdeal.Value.res_main_v78 V : S2x300x300.Idx → EReal) (ix3 b r l)) ∧
    (∀ i, IsReal ((V (Proc.devRef .tc Cert.ReferenceIdeal.main_arg0) : S2x64x240x320.Idx → EReal) i))
    ∧ (∀ i, IsReal ((V (Proc.devRef .tc Cert.ReferenceIdeal.main_arg1) : S16x64x16x16.Idx → EReal) i))
    ∧ (∀ i, IsReal ((V (Proc.devRef .tc Cert.ReferenceIdeal.main_arg2) : S16.Idx → EReal) i))
    ∧ (∀ i, IsReal ((V (Proc.devRef .tc Cert.ReferenceIdeal.main_arg3) : S16.Idx → EReal) i))
    ∧ (∀ i, IsReal ((V (Proc.devRef .tc Cert.ReferenceIdeal.main_arg4) : S16.Idx → EReal) i))
    ∧ (∀ i, IsReal ((V (Proc.devRef .tc Cert.ReferenceIdeal.main_arg5) : S16x16x1x1.Idx → EReal) i))
    ∧ (∀ i, IsReal ((V (Proc.devRef .tc Cert.ReferenceIdeal.main_arg6) : S16.Idx → EReal) i))
    ∧ (∀ i, IsReal ((V (Proc.devRef .tc Cert.ReferenceIdeal.main_arg7) : S16.Idx → EReal) i))
    ∧ (∀ i, IsReal ((V (Proc.devRef .tc Cert.ReferenceIdeal.main_arg8) : S16x16.Idx → EReal) i))
    ∧ (∀ i, IsReal ((V (Proc.devRef .tc Cert.ReferenceIdeal.main_arg9) : S16.Idx → EReal) i))) := by
  have j : S_.Idx := fun d => d.elim0
  have e := congrFun (((fn_head _ _ _ _ _ _ _ _ _ _).trans (fn_tail V _)).symm.trans h) j
  obtain ⟨h1, h2⟩ := ties_none _ _ j e
  exact ⟨h2, finite_real _ _ _ _ _ _ _ _ _ _ j h1⟩

end

end Cert.Pre_distinct_distances
-- ==== Proof.Agree.lean ====
/-
  The kernel's result and the reference's are the same function of the arguments.
-/
module

public import proofs.«01_k».proof.Proof.Answer
public import proofs.«01_k».proof.Proof.Outcome
public import proofs.«01_k».proof.Proof.Pick
public import proofs.«01_k».proof.Proof.Precondition

@[expose] public section

set_option maxRecDepth 16384

noncomputable section

namespace Cert.Agree

open Idealize.ShloMosaic Idealize.SL.Sem Idealize.ShloMosaic.TcCoe Idealize.ShloMosaic.Tactic
open Cert.ReferenceIdeal Cert.ReferenceIdeal.Gen Cert.ReferenceIdeal.Value
open Cert.ReferenceIdeal.Up (map0 map1 map2 map3 map1_value map2_value map3_value last_value)
open Cert.ReferenceIdeal.Pick (embedded picked edge_value distance_value)
open Cert.KernelIdeal.Table (fourfold rowsTwice columnsTwice)
open Cert.KernelIdeal.Planes (chosenMean)
open Cert.KernelIdeal.Select Cert.Lerp Cert.Model Cert.Proof

variable (V : Valuation τ sig (Elt Ideal))

/-- The attended features of an image, from the reference's arguments. -/
def feats (b : Fin 2) : Fin 300 → Fin 16 → EReal :=
  features (V (Proc.devRef .tc main_arg0)) (V (Proc.devRef .tc main_arg1)) (V (Proc.devRef .tc main_arg2))
    (V (Proc.devRef .tc main_arg3)) (V (Proc.devRef .tc main_arg4)) (V (Proc.devRef .tc main_arg5))
    (V (Proc.devRef .tc main_arg6)) (V (Proc.devRef .tc main_arg7)) b

/-- The embedding is the attended features. -/
theorem embedded_eq (b : Fin 2) : embedded V b = feats V b := by
  funext r c
  exact (Cert.ReferenceIdeal.Feature.attended_value V b r c).trans rfl

/-- A row of distances. -/
theorem distance_eq (b : Fin 2) (r : Fin 300) :
    (fun l => ((res_main_v78 V : S2x300x300.Idx → EReal) (ix3 b r l) : EReal)) = apart (feats V b) r := by
  funext l
  rw [← embedded_eq]
  exact distance_value V b r l

section Decoded
variable (hreal : ∀ b r c, IsReal (feats V b r c))
  (h8 : ∀ i, IsReal ((V (Proc.devRef .tc main_arg8) : S16x16.Idx → EReal) i))
  (h9 : ∀ i, IsReal ((V (Proc.devRef .tc main_arg9) : S16.Idx → EReal) i))

include hreal h8 h9 in
/-- The reference's linear layer is the one over the chosen mean. -/
theorem edge_eq (b : Fin 2) (o : Fin 16) (i : Fin 15) (j : Fin 20) :
    map0 V b o i j = chosenMean (feats V b) (Cert.KernelIdeal.Feature.matrix (V (Proc.devRef .tc main_arg8)))
      (entries (V (Proc.devRef .tc main_arg9))) (cell i j) o := by
  refine (edge_value V b o i j).trans ?_
  have hp : picked V b (cell i j) = fun t => sortedFrom (before (gram (feats V b) (cell i j))) (wanted t) := by
    funext t
    unfold picked
    rw [distance_eq, gram_before _ (hreal b)]
    rfl
  rw [embedded_eq, hp]
  exact (edge_mean (feats V b) (hreal b) _ (cell i j) _ (fun c => h8 _) _ (h9 _)).symm

/-- The four doublings, one after the other. -/
theorem up_eq (b : Fin 2) (o : Fin 16) (h : Fin 60) (p : Fin 80) :
    mixed (map3 V b o h (close (n := 40) rfl p)) (map3 V b o h (other (n := 40) rfl p)) = fourfold (map0 V b o) h p := by
  have e1 : map1 V b o = rowsTwice (n := 15) rfl (map0 V b o) := funext fun i => funext fun j => map1_value V b o i j
  have e2 : map2 V b o = columnsTwice (n := 20) rfl (map1 V b o) := funext fun i => funext fun j => map2_value V b o i j
  have e3 : map3 V b o = rowsTwice (n := 30) rfl (map2 V b o) := funext fun i => funext fun j => map3_value V b o i j
  unfold fourfold
  rw [← e1, ← e2, ← e3]
  rfl

/-- Both programs hold the same position terms. -/
theorem position_lit (i : Fin 76800) (k : ℕ) (h : i.val = k) :
    Ideal.ofBits .f32 (lit0 i) = Ideal.ofBits .f32 (Cert.KernelIdeal.lit2t k) := by
  rw [Cert.KernelIdeal.Table.positions]
  cases i; cases h; rfl

/-- The kernel's result from the reference's arguments. -/
def kernelResult : S2x16x60x80.Idx → EReal :=
  shapeCast Cert.KernelIdeal.S2x16x60x80 (Cert.KernelIdeal.Result.planes (F := Ideal) (V (Proc.devRef .tc main_arg0))
    (V (Proc.devRef .tc main_arg1)) (V (Proc.devRef .tc main_arg2))
    (V (Proc.devRef .tc main_arg3)) (V (Proc.devRef .tc main_arg4)) (V (Proc.devRef .tc main_arg5))
    (V (Proc.devRef .tc main_arg6)) (V (Proc.devRef .tc main_arg7)) (V (Proc.devRef .tc main_arg8))
    (V (Proc.devRef .tc main_arg9))) Cert.KernelIdeal.Gen.shapeCasts_S2x960x80_S2x16x60x80

/-- Splitting the planes by channel. -/
theorem split_value (x : Cert.KernelIdeal.S2x960x80.Idx → EReal) (b : Fin 2) (o : Fin 16) (h : Fin 60) (w : Fin 80)
    (p : Fin 960) (hp : p.val = 60 * o.val + h.val) :
    (shapeCast Cert.KernelIdeal.S2x16x60x80 x Cert.KernelIdeal.Gen.shapeCasts_S2x960x80_S2x16x60x80 : _ → EReal)
      (ix4 b o h w) = x (ix3 b p w) := by
  pointwise
  exact congrArg (fun q : Fin 960 => x (ix3 b q w)) (Fin.ext (by rw [hp]; exact congrArg (· + h.val) (Nat.mul_comm _ _)))

include hreal h8 h9 in
/-- The two results are equal at an image, a channel and a position. -/
theorem agree_at (hinj : ∀ b r, Function.Injective (gram (feats V b) r)) (b : Fin 2) (o : Fin 16) (h : Fin 60) (w : Fin 80) :
    kernelResult V (ix4 b o h w) = (val5 V (Proc.devRef .tc main_v205) : S2x16x60x80.Idx → EReal) (ix4 b o h w) := by
  have hp : 60 * o.val + h.val < 960 := by omega
  refine (split_value _ b o h w ⟨60 * o.val + h.val, hp⟩ rfl).trans ?_
  refine (Cert.KernelIdeal.Planes.planes_value _ _ _ _ _ _ _ _ _ _ hreal h8 h9 hinj b o h w _ rfl).trans ?_
  refine Eq.trans ?_ (last_value V b o h w).symm
  have e0 : map0 V b o = _ := funext fun i => funext fun j => edge_eq V hreal h8 h9 b o i j
  refine (congrArg (fun z : EReal => z + _) ((congrArg (fun f => fourfold f h w) e0).symm.trans (up_eq V b o h w).symm)).trans ?_
  refine congrArg (fun z : EReal => _ + z) (position_lit _ _ ?_).symm
  refine (Shape.rowMajor_val_three (ix3 o h w)).trans ?_
  change (o.val * 60 + h.val) * 80 + w.val = (60 * o.val + h.val) * 80 + w.val
  omega

include hreal h8 h9 in
/-- The two results are equal. -/
theorem agree (hinj : ∀ b r, Function.Injective (gram (feats V b) r)) :
    kernelResult V = (val5 V (Proc.devRef .tc main_v205) : S2x16x60x80.Idx → EReal) := by
  funext i
  have hi : i = ix4 (n0 := 2) (n1 := 16) (n2 := 60) (n3 := 80) (i 0) (i 1) (i 2) (i 3) := by
    funext d; fin_cases d <;> rfl
  rw [hi]
  exact agree_at V hreal h8 h9 hinj (i 0) (i 1) (i 2) (i 3)

end Decoded

/-- Where the precondition holds of the arguments, the two results are equal. -/
theorem agree_pre [Cert.Pre_distinct_distances.Facts] (h : Cert.Pre_distinct_distances.fn (F := Ideal)
      (V (Proc.devRef .tc main_arg0)) (V (Proc.devRef .tc main_arg1)) (V (Proc.devRef .tc main_arg2))
      (V (Proc.devRef .tc main_arg3)) (V (Proc.devRef .tc main_arg4)) (V (Proc.devRef .tc main_arg5))
      (V (Proc.devRef .tc main_arg6)) (V (Proc.devRef .tc main_arg7)) (V (Proc.devRef .tc main_arg8))
      (V (Proc.devRef .tc main_arg9)) = fun _ => 1#1) :
    kernelResult V = (val5 V (Proc.devRef .tc main_v205) : S2x16x60x80.Idx → EReal) := by
  obtain ⟨hd, h0, h1, h2, h3, h4, h5, h6, h7, h8, h9⟩ := Cert.Pre_distinct_distances.decode V h
  have hreal : ∀ b r c, IsReal (feats V b r c) := isReal_features _ _ _ _ _ _ _ _ h0 h1 h2 h3 h4 h5 h6 h7
  exact agree V hreal h8 h9 fun b r => gram_injective _ (hreal b) r (by rw [← distance_eq]; exact hd b r)

end Cert.Agree
-- ==== Proof.lean ====
/-
  The claims, assembled: the three frames, the agreement of the two printed kernels, and the equality of the kernel's
  result with the reference's where no patch is equally far from two others.
-/
module

public import proofs.«01_k».proof.Defs
public import proofs.«01_k».proof.Proof.Gen.Kernel.Frame
public import proofs.«01_k».proof.Proof.Result
public import proofs.«01_k».proof.Proof.Agree

@[expose] public section

set_option maxRecDepth 16384

noncomputable section

namespace Cert.Proof

open Idealize.ShloMosaic Idealize.SL.Sem Idealize.ShloMosaic.TcCoe Idealize.ShloMosaic.StableHlo

/-- The reference leaves its arguments as they were and every counter at zero. -/
theorem reference_still : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- The kernel's result from a memory. -/
def kernelValue (m : (ℓ : Loc Cert.KernelIdeal.nD Cert.KernelIdeal.τ Cert.KernelIdeal.sig) → Buf (Elt Ideal) ℓ)
    (g : Dev Cert.KernelIdeal.nD → PrngReg) (c : Dev Cert.KernelIdeal.nD) :
    Buf (Elt Ideal) ((c.tc : Thread Cert.KernelIdeal.nD Cert.KernelIdeal.τ).loc Cert.KernelIdeal.main_v25) :=
  Cert.KernelIdeal.Gen.W5 m g c (Proc.devRef .tc Cert.KernelIdeal.main_v25)

/-- From equal arguments under the precondition, the two results are equal. -/
theorem same_result [Cert.Pre_distinct_distances.Facts] : Cert.algebraic_KernelIdeal_ReferenceIdeal_pre_distinct_distances := by
  intro m g m' g' hpre hargs
  refine ⟨kernelValue m g, Cert.KernelIdeal.Result.run (F := Ideal) m g, ?_⟩
  refine (θ_run Cert.ReferenceIdeal.defs _ _).mono (fun r h c => ⟨?_, (h c).2⟩) (Cert.ReferenceIdeal.Value.run (F := Ideal) m' g')
  refine (h c).1.trans ((Cert.ReferenceIdeal.Value.val5_main_v205 (launchContents m' c)).symm.trans ?_)
  obtain ⟨h0, h1, h2, h3, h4, h5, h6, h7, h8, h9⟩ := hargs c
  refine Eq.trans ?_ (Cert.KernelIdeal.Result.result m g c).symm
  have hp := hpre c
  rw [← h0, ← h1, ← h2, ← h3, ← h4, ← h5, ← h6, ← h7, ← h8, ← h9] at hp ⊢
  exact (Cert.Agree.agree_pre (launchContents m' c) hp).symm

/-- All the claims. -/
theorem claim : Cert.Claim :=
  ⟨Cert.Kernel.Gen.facts, Cert.KernelIdeal.Gen.facts, Cert.ReferenceIdeal.Gen.facts, Cert.Pre_distinct_distances.facts,
    fun m g _ => Cert.Kernel.Gen.frame m g, fun m g _ => Cert.KernelIdeal.Gen.frame m g,
    fun m g _ => Cert.KernelIdeal.Gen.frame m g, reference_still, fun m g _ => reference_still m g trivial, trivial,
    @same_result Cert.Pre_distinct_distances.facts⟩

end Cert.Proof

end
